-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v2_0)) (v1 : (c : Dev Cert.ResNormIdeal.nD) → Buf (Elt Ideal) ((c.tc : Thread Cert.ResNormIdeal.nD Cert.ResNormIdeal.τ).loc Cert.ResNormIdeal.main_v2_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v2_0) = v0 c
          ∧ r.2.mem ((c.tc : Thread Cert.ResNormIdeal.nD Cert.ResNormIdeal.τ).loc Cert.ResNormIdeal.main_v2_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v13) = v0 c
          ∧ r.2.mem ((c.tc : Thread Cert.ResNormRefIdeal.nD Cert.ResNormRefIdeal.τ).loc Cert.ResNormRefIdeal.main_v27) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hResNorm : Cert.ResNorm.Facts) (hResNormIdeal : Cert.ResNormIdeal.Facts) (hResNormRefIdeal : Cert.ResNormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_ResNorm (hResNorm := hResNorm)
    ∧ quiescent_ResNormIdeal (hResNormIdeal := hResNormIdeal)
    ∧ quiescent_ResNormRefIdeal (hResNormRefIdeal := hResNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_ResNorm_ResNormIdeal
    ∧ algebraic_ResNormIdeal_ResNormRefIdeal (hResNormIdeal := hResNormIdeal) (hResNormRefIdeal := hResNormRefIdeal)
-- ==== Pre_finite.lean ====
abbrev S2x4096x12288 : Shape := ⟨3, ![2, 4096, 12288]⟩
abbrev S32x16 : Shape := ⟨2, ![32, 16]⟩
abbrev S64 : Shape := ⟨1, ![64]⟩
abbrev S128 : Shape := ⟨1, ![128]⟩
abbrev S2x4096x6144 : Shape := ⟨3, ![2, 4096, 6144]⟩
abbrev S_ : Shape := ⟨0, ![]⟩

class Facts : Prop where
  slices_S2x4096x12288_S2x4096x6144_0_0_6144 : S2x4096x12288.Slices ![0, 0, 6144] S2x4096x6144
  bcast_S_S2x4096x6144 : S_.BroadcastsInDim S2x4096x6144 (![] : Fin 0 → Fin S2x4096x6144.rank)
  bcast_S_S32x16 : S_.BroadcastsInDim S32x16 (![] : Fin 0 → Fin S32x16.rank)
  bcast_S_S64 : S_.BroadcastsInDim S64 (![] : Fin 0 → Fin S64.rank)

variable [Facts]

def fn_part1 {F : FTy → Type} [FloatOps F] (main_v3 : IVec S2x4096x6144 1) (main_v6 : IVec S32x16 1) (main_v9 : IVec S64 1) (main_v12 : IVec S64 1) (main_v15 : IVec S64 1) (main_v16 : FVec F S64 .f32) (main_v17 : FVec F S64 .f32) : IVec S2x4096x6144 1 × IVec S32x16 1 × IVec S64 1 × IVec S64 1 × IVec S64 1 × IVec S64 1 :=
  let main_v18 : IVec S64 1 := cmpf .olt main_v16 main_v17
  (main_v3, main_v6, main_v9, main_v12, main_v15, main_v18)

def fn {F : FTy → Type} [FloatOps F] (main_arg0 : FVec F S2x4096x12288 .f32) (main_arg1 : FVec F S32x16 .f32) (main_arg2 : FVec F S64 .f32) (main_arg3 : FVec F S64 .f32) (main_arg4 : FVec F S64 .f32) (main_arg5 : FVec F S64 .f32) (main_arg6 : FVec F S128 .f32) : IVec S2x4096x6144 1 × IVec S32x16 1 × IVec S64 1 × IVec S64 1 × IVec S64 1 × IVec S64 1 :=
  let main_v0 : FVec F S2x4096x6144 .f32 := (extractStridedSlice S2x4096x6144 ![0, 0, 6144] · slices_S2x4096x12288_S2x4096x6144_0_0_6144) main_arg0
  let main_v1 : FVec F S2x4096x6144 .f32 := Host.absf main_v0
  let main_cst : FVec F S_ .f32 := constant S_ .f32 0x7F800000#32
  let main_v2 : FVec F S2x4096x6144 .f32 := broadcastInDim S2x4096x6144 ![] bcast_S_S2x4096x6144 main_cst
  let main_v3 : IVec S2x4096x6144 1 := cmpf .olt main_v1 main_v2
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg4
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  let main_v16 : FVec F S64 .f32 := Host.absf main_arg5
  let main_cst_4 : FVec F S_ .f32 := constant S_ .f32 0x7F800000#32
  let main_v17 : FVec F S64 .f32 := broadcastInDim S64 ![] bcast_S_S64 main_cst_4
  fn_part1 (F := F) main_v3 main_v6 main_v9 main_v12 main_v15 main_v16 main_v17
-- ==== Kernel.lean ====
abbrev S2x4096x12288 : Shape := ⟨3, ![2, 4096, 12288]⟩
abbrev S32x16 : Shape := ⟨2, ![32, 16]⟩
abbrev S64 : Shape := ⟨1, ![64]⟩
abbrev S128 : Shape := ⟨1, ![128]⟩
abbrev S63 : Shape := ⟨1, ![63]⟩
abbrev S_ : Shape := ⟨0, ![]⟩
abbrev S63x1x1 : Shape := ⟨3, ![63, 1, 1]⟩
abbrev S1x128x1 : Shape := ⟨3, ![1, 128, 1]⟩
abbrev S1x1x128 : Shape := ⟨3, ![1, 1, 128]⟩
abbrev S63x1x128 : Shape := ⟨3, ![63, 1, 128]⟩
abbrev S63x128x128 : Shape := ⟨3, ![63, 128, 128]⟩
abbrev S63x128x128x1 : Shape := ⟨4, ![63, 128, 128, 1]⟩
abbrev S63x128x128x16 : Shape := ⟨4, ![63, 128, 128, 16]⟩
abbrev S16x63x128x128 : Shape := ⟨4, ![16, 63, 128, 128]⟩
abbrev S1x64 : Shape := ⟨2, ![1, 64]⟩
abbrev S1x128 : Shape := ⟨2, ![1, 128]⟩
abbrev S2x4096x2048 : Shape := ⟨3, ![2, 4096, 2048]⟩
abbrev S1x256x128 : Shape := ⟨3, ![1, 256, 128]⟩
abbrev S1x4096x128 : Shape := ⟨3, ![1, 4096, 128]⟩
abbrev S1x63x128x128 : Shape := ⟨4, ![1, 63, 128, 128]⟩
abbrev S4096x128 : Shape := ⟨2, ![4096, 128]⟩
abbrev S1 : Shape := ⟨1, ![1]⟩
abbrev S1x1 : Shape := ⟨2, ![1, 1]⟩
abbrev S256x128 : Shape := ⟨2, ![256, 128]⟩
abbrev S1x1x128x128 : Shape := ⟨4, ![1, 1, 128, 128]⟩
abbrev S128x128 : Shape := ⟨2, ![128, 128]⟩
abbrev S128x4096 : Shape := ⟨2, ![128, 4096]⟩
abbrev S256x4096 : Shape := ⟨2, ![256, 4096]⟩
abbrev S256 : Shape := ⟨1, ![256]⟩
abbrev S256x1 : Shape := ⟨2, ![256, 1]⟩

abbrev nBuf : Space → Nat
  | .hbm => 77
  | .vmem => 17
  | .smem => 0
  | _ => 0

abbrev bufTy : (tb : Table) → Fin (tcTables nBuf tb) → BufTy
  | .hbm, ⟨0, _⟩ => ⟨S2x4096x12288, .f32⟩
  | .hbm, ⟨1, _⟩ => ⟨S32x16, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S63, .i32⟩
  | .hbm, ⟨8, _⟩ => ⟨S_, .i32⟩
  | .hbm, ⟨9, _⟩ => ⟨S63, .i32⟩
  | .hbm, ⟨10, _⟩ => ⟨S63, .i32⟩
  | .hbm, ⟨11, _⟩ => ⟨S63x1x1, .i32⟩
  | .hbm, ⟨12, _⟩ => ⟨S128, .i32⟩
  | .hbm, ⟨13, _⟩ => ⟨S1x128x1, .i32⟩
  | .hbm, ⟨14, _⟩ => ⟨S128, .i32⟩
  | .hbm, ⟨15, _⟩ => ⟨S1x1x128, .i32⟩
  | .hbm, ⟨16, _⟩ => ⟨S_, .i32⟩
  | .hbm, ⟨17, _⟩ => ⟨S63x1x1, .i32⟩
  | .hbm, ⟨18, _⟩ => ⟨S63x1x1, .i32⟩
  | .hbm, ⟨19, _⟩ => ⟨S63x1x128, .i32⟩
  | .hbm, ⟨20, _⟩ => ⟨S63x1x128, .i32⟩
  | .hbm, ⟨21, _⟩ => ⟨S63x1x128, .i32⟩
  | .hbm, ⟨22, _⟩ => ⟨S63x128x128, .i32⟩
  | .hbm, ⟨23, _⟩ => ⟨S63x128x128, .i32⟩
  | .hbm, ⟨24, _⟩ => ⟨S63x128x128, .i32⟩
  | .hbm, ⟨25, _⟩ => ⟨S_, .i32⟩
  | .hbm, ⟨26, _⟩ => ⟨S63x128x128, .i32⟩
  | .hbm, ⟨27, _⟩ => ⟨S63x128x128, .i1⟩
  | .hbm, ⟨28, _⟩ => ⟨S_, .i32⟩
  | .hbm, ⟨29, _⟩ => ⟨S_, .i32⟩
  | .hbm, ⟨30, _⟩ => ⟨S63x128x128, .i32⟩
  | .hbm, ⟨31, _⟩ => ⟨S63x128x128, .i32⟩
  | .hbm, ⟨32, _⟩ => ⟨S63x128x128, .i32⟩
  | .hbm, ⟨33, _⟩ => ⟨S63x128x128, .i32⟩
  | .hbm, ⟨34, _⟩ => ⟨S_, .i32⟩
  | .hbm, ⟨35, _⟩ => ⟨S63x128x128, .i32⟩
  | .hbm, ⟨36, _⟩ => ⟨S63x128x128, .i32⟩
  | .hbm, ⟨37, _⟩ => ⟨S63x128x128, .f32⟩
  | .hbm, ⟨38, _⟩ => ⟨S_, .f32⟩
  | .hbm, ⟨39, _⟩ => ⟨S63x128x128, .f32⟩
  | .hbm, ⟨40, _⟩ => ⟨S63x128x128, .f32⟩
  | .hbm, ⟨41, _⟩ => ⟨S63x128x128, .f32⟩
  | .hbm, ⟨42, _⟩ => ⟨S_, .f32⟩
  | .hbm, ⟨43, _⟩ => ⟨S63x128x128, .f32⟩
  | .hbm, ⟨44, _⟩ => ⟨S63x128x128, .f32⟩
  | .hbm, ⟨45, _⟩ => ⟨S_, .f32⟩
  | .hbm, ⟨46, _⟩ => ⟨S63x128x128, .f32⟩
  | .hbm, ⟨47, _⟩ => ⟨S63x128x128, .f32⟩
  | .hbm, ⟨48, _⟩ => ⟨S63x128x128, .i32⟩
  | .hbm, ⟨49, _⟩ => ⟨S_, .i32⟩
  | .hbm, ⟨50, _⟩ => ⟨S63x128x128, .i32⟩
  | .hbm, ⟨51, _⟩ => ⟨S63x128x128, .i32⟩
  | .hbm, ⟨52, _⟩ => ⟨S_, .i32⟩
  | .hbm, ⟨53, _⟩ => ⟨S63x128x128, .i32⟩
  | .hbm, ⟨54, _⟩ => ⟨S63x128x128, .i32⟩
  | .hbm, ⟨55, _⟩ => ⟨S_, .i32⟩
  | .hbm, ⟨56, _⟩ => ⟨S63x128x128, .i32⟩
  | .hbm, ⟨57, _⟩ => ⟨S63x128x128, .i1⟩
  | .hbm, ⟨58, _⟩ => ⟨S63x128x128, .i32⟩
  | .hbm, ⟨59, _⟩ => ⟨S63x128x128, .i32⟩
  | .hbm, ⟨60, _⟩ => ⟨S63x128x128, .i32⟩
  | .hbm, ⟨61, _⟩ => ⟨S_, .i32⟩
  | .hbm, ⟨62, _⟩ => ⟨S63x128x128, .i32⟩
  | .hbm, ⟨63, _⟩ => ⟨S63x128x128, .i1⟩
  | .hbm, ⟨64, _⟩ => ⟨S_, .i32⟩
  | .hbm, ⟨65, _⟩ => ⟨S63x128x128, .i32⟩
  | .hbm, ⟨66, _⟩ => ⟨S63x128x128, .i32⟩
  | .hbm, ⟨67, _⟩ => ⟨S63x128x128, .i32⟩
  | .hbm, ⟨68, _⟩ => ⟨S63x128x128x1, .i32⟩
  | .hbm, ⟨69, _⟩ => ⟨S63x128x128x16, .f32⟩
  | .hbm, ⟨70, _⟩ => ⟨S16x63x128x128, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x128, .f32⟩
  | .hbm, ⟨76, _⟩ => ⟨S2x4096x2048, .bf16⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x63x128x128, .f32⟩
  | .local _ .vmem, ⟨7, _⟩ => ⟨S1x63x128x128, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x256x128, .bf16⟩
  | .local _ .vmem, ⟨14, _⟩ => ⟨S1x256x128, .bf16⟩
  | .local _ .vmem, ⟨15, _⟩ => ⟨S4096x128, .bf16⟩
  | .local _ .vmem, ⟨16, _⟩ => ⟨S4096x128, .bf16⟩
  | _, _ => ⟨S2x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 16, 16], ![false, false, false]⟩

def k0_off1 (i : grid0.Coords) (c31_i32 : BitVec 32) (c0_i32_13 : BitVec 32) : Fin 4 → Nat :=
  let c0_14 : Index := 0#32
  let arg2 : BitVec 32 := BitVec.ofNat 32 (i 2).val
  let c2_i32 : BitVec 32 := 2#32
  let v25 : BitVec 32 := Scalar.muli arg2 c2_i32
  let v26 : BitVec 32 := Scalar.addi v25 c0_i32_13
  let v27 : BitVec 32 := Scalar.subi c31_i32 v26
  let v28 : Index := Scalar.indexCast v27
  let c0_15 : Index := 0#32
  let c0_16 : Index := 0#32
  ![0, v28.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x63x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S2x4096x12288 : Shape := ⟨3, ![2, 4096, 12288]⟩
abbrev S32x16 : Shape := ⟨2, ![32, 16]⟩
abbrev S64 : Shape := ⟨1, ![64]⟩
abbrev S128 : Shape := ⟨1, ![128]⟩
abbrev S2x4096x2048 : Shape := ⟨3, ![2, 4096, 2048]⟩
abbrev S2x4096x16x2x64 : Shape := ⟨5, ![2, 4096, 16, 2, 64]⟩
abbrev S2x16x2x4096x64 : Shape := ⟨5, ![2, 16, 2, 4096, 64]⟩
abbrev S2x4096x16x128 : Shape := ⟨4, ![2, 4096, 16, 128]⟩
abbrev S2x16x4096x128 : Shape := ⟨4, ![2, 16, 4096, 128]⟩
abbrev S_ : Shape := ⟨0, ![]⟩
abbrev S4096 : Shape := ⟨1, ![4096]⟩
abbrev S2x16x2x4096x4096 : Shape := ⟨5, ![2, 16, 2, 4096, 4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x16 : Shape := ⟨3, ![4096, 4096, 16]⟩
abbrev S16x4096x4096 : Shape := ⟨3, ![16, 4096, 4096]⟩
abbrev S1x16x1x4096x4096 : Shape := ⟨5, ![1, 16, 1, 4096, 4096]⟩
abbrev S2x16x2x4096 : Shape := ⟨4, ![2, 16, 2, 4096]⟩
abbrev S2x16x2x4096x1 : Shape := ⟨5, ![2, 16, 2, 4096, 1]⟩
abbrev S2x16x1x4096x4096 : Shape := ⟨5, ![2, 16, 1, 4096, 4096]⟩
abbrev S2x16x4096x4096 : Shape := ⟨4, ![2, 16, 4096, 4096]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S2x4096x12288, .f32⟩
  | .hbm, ⟨1, _⟩ => ⟨S32x16, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S2x4096x2048, .f32⟩
  | .hbm, ⟨8, _⟩ => ⟨S2x4096x16x2x64, .f32⟩
  | .hbm, ⟨9, _⟩ => ⟨S2x16x2x4096x64, .f32⟩
  | .hbm, ⟨10, _⟩ => ⟨S2x4096x2048, .f32⟩
  | .hbm, ⟨11, _⟩ => ⟨S2x4096x16x2x64, .f32⟩
  | .hbm, ⟨12, _⟩ => ⟨S2x16x2x4096x64, .f32⟩
  | .hbm, ⟨13, _⟩ => ⟨S2x4096x2048, .f32⟩
  | .hbm, ⟨14, _⟩ => ⟨S2x4096x16x128, .f32⟩
  | .hbm, ⟨15, _⟩ => ⟨S2x16x4096x128, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .i32⟩
  | .hbm, ⟨28, _⟩ => ⟨S2x16x2x4096x4096, .f32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i1⟩
  | .hbm, ⟨37, _⟩ => ⟨S_, .i32⟩
  | .hbm, ⟨38, _⟩ => ⟨S_, .i32⟩
  | .hbm, ⟨39, _⟩ => ⟨S4096x4096, .i32⟩
  | .hbm, ⟨40, _⟩ => ⟨S4096x4096, .i32⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S_, .i32⟩
  | .hbm, ⟨62, _⟩ => ⟨S4096x4096, .i32⟩
  | .hbm, ⟨63, _⟩ => ⟨S4096x4096, .i32⟩
  | .hbm, ⟨64, _⟩ => ⟨S_, .i32⟩
  | .hbm, ⟨65, _⟩ => ⟨S4096x4096, .i32⟩
  | .hbm, ⟨66, _⟩ => ⟨S4096x4096, .i1⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x16, .f32⟩
  | .hbm, ⟨79, _⟩ => ⟨S16x4096x4096, .f32⟩
  | .hbm, ⟨80, _⟩ => ⟨S1x16x1x4096x4096, .f32⟩
  | .hbm, ⟨81, _⟩ => ⟨S2x16x2x4096x4096, .f32⟩
  | .hbm, ⟨82, _⟩ => ⟨S2x16x2x4096x4096, .f32⟩
  | .hbm, ⟨83, _⟩ => ⟨S_, .f32⟩
  | .hbm, ⟨84, _⟩ => ⟨S2x16x2x4096, .f32⟩
  | .hbm, ⟨85, _⟩ => ⟨S_, .f32⟩
  | .hbm, ⟨86, _⟩ => ⟨S2x16x2x4096, .f32⟩
  | .hbm, ⟨87, _⟩ => ⟨S2x16x2x4096, .f32⟩
  | .hbm, ⟨88, _⟩ => ⟨S2x16x2x4096x1, .f32⟩
  | .hbm, ⟨89, _⟩ => ⟨S2x16x2x4096x4096, .f32⟩
  | .hbm, ⟨90, _⟩ => ⟨S2x16x2x4096x4096, .f32⟩
  | .hbm, ⟨91, _⟩ => ⟨S2x16x2x4096x4096, .f32⟩
  | .hbm, ⟨92, _⟩ => ⟨S_, .f32⟩
  | .hbm, ⟨93, _⟩ => ⟨S2x16x2x4096, .f32⟩
  | .hbm, ⟨94, _⟩ => ⟨S2x16x2x4096x1, .f32⟩
  | .hbm, ⟨95, _⟩ => ⟨S2x16x2x4096x4096, .f32⟩
  | .hbm, ⟨96, _⟩ => ⟨S2x16x2x4096x4096, .f32⟩
  | .hbm, ⟨97, _⟩ => ⟨S2x16x1x4096x4096, .f32⟩
  | .hbm, ⟨98, _⟩ => ⟨S2x16x4096x4096, .f32⟩
  | .hbm, ⟨99, _⟩ => ⟨S2x16x1x4096x4096, .f32⟩
  | .hbm, ⟨100, _⟩ => ⟨S2x16x4096x4096, .f32⟩
  | .hbm, ⟨101, _⟩ => ⟨S2x16x4096x4096, .f32⟩
  | .hbm, ⟨102, _⟩ => ⟨S2x16x4096x4096, .f32⟩
  | .hbm, ⟨103, _⟩ => ⟨S2x16x4096x4096, .f32⟩
  | .hbm, ⟨104, _⟩ => ⟨S2x16x4096x128, .f32⟩
  | .hbm, ⟨105, _⟩ => ⟨S2x4096x16x128, .f32⟩
  | .hbm, ⟨106, _⟩ => ⟨S2x4096x16x128, .f32⟩
  | .hbm, ⟨107, _⟩ => ⟨S_, .f32⟩
  | .hbm, ⟨108, _⟩ => ⟨S2x4096x16, .f32⟩
  | .hbm, ⟨109, _⟩ => ⟨S2x4096x16x1, .f32⟩
  | .hbm, ⟨110, _⟩ => ⟨S_, .f32⟩
  | .hbm, ⟨111, _⟩ => ⟨S2x4096x16x1, .f32⟩
  | .hbm, ⟨112, _⟩ => ⟨S2x4096x16x1, .f32⟩
  | .hbm, ⟨113, _⟩ => ⟨S_, .f32⟩
  | .hbm, ⟨114, _⟩ => ⟨S2x4096x16x1, .f32⟩
  | .hbm, ⟨115, _⟩ => ⟨S2x4096x16x1, .f32⟩
  | .hbm, ⟨116, _⟩ => ⟨S2x4096x16x1, .f32⟩
  | .hbm, ⟨117, _⟩ => ⟨S2x4096x16x128, .f32⟩
  | .hbm, ⟨118, _⟩ => ⟨S2x4096x16x128, .f32⟩
  | .hbm, ⟨119, _⟩ => ⟨S1x1x1x128, .f32⟩
  | .hbm, ⟨120, _⟩ => ⟨S2x4096x16x128, .f32⟩
  | .hbm, ⟨121, _⟩ => ⟨S2x4096x16x128, .f32⟩
  | .hbm, ⟨122, _⟩ => ⟨S_, .f32⟩
  | .hbm, ⟨123, _⟩ => ⟨S2x4096x16x128, .f32⟩
  | .hbm, ⟨124, _⟩ => ⟨S2x4096x16x128, .f32⟩
  | .hbm, ⟨125, _⟩ => ⟨S2x4096x2048, .f32⟩
  | .hbm, ⟨126, _⟩ => ⟨S2x4096x2048, .bf16⟩
  | _, _ => ⟨S2x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_c_3 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Up.lean ====
abbrev S8192x4096 : Shape := ⟨2, ![8192, 4096]⟩
abbrev S4096x16384 : Shape := ⟨2, ![4096, 16384]⟩
abbrev S_ : Shape := ⟨0, ![]⟩
abbrev S1x16384 : Shape := ⟨2, ![1, 16384]⟩
abbrev S8192x16384 : Shape := ⟨2, ![8192, 16384]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S4096x16384, .bf16⟩
  | .hbm, ⟨3, _⟩ => ⟨S_, .f32⟩
  | .hbm, ⟨4, _⟩ => ⟨S1x16384, .f32⟩
  | .hbm, ⟨5, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S8192x16384 : Shape := ⟨2, ![8192, 16384]⟩
abbrev S16384x4096 : Shape := ⟨2, ![16384, 4096]⟩
abbrev S_ : Shape := ⟨0, ![]⟩
abbrev S1x4096 : Shape := ⟨2, ![1, 4096]⟩
abbrev S8192x4096 : Shape := ⟨2, ![8192, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S16384x4096, .bf16⟩
  | .hbm, ⟨3, _⟩ => ⟨S_, .f32⟩
  | .hbm, ⟨4, _⟩ => ⟨S1x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x16384 : Shape := ⟨2, ![8192, 16384]⟩
abbrev S16384x4096 : Shape := ⟨2, ![16384, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S8192x16384, .f32⟩
  | .hbm, ⟨3, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProj.lean ====
abbrev S8192x4096 : Shape := ⟨2, ![8192, 4096]⟩
abbrev S4096x12288 : Shape := ⟨2, ![4096, 12288]⟩
abbrev S_ : Shape := ⟨0, ![]⟩
abbrev S2048 : Shape := ⟨1, ![2048]⟩
abbrev S4096 : Shape := ⟨1, ![4096]⟩
abbrev S12288 : Shape := ⟨1, ![12288]⟩
abbrev S1x12288 : Shape := ⟨2, ![1, 12288]⟩
abbrev S8192x12288 : Shape := ⟨2, ![8192, 12288]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S4096, .f32⟩
  | .hbm, ⟨10, _⟩ => ⟨S12288, .f32⟩
  | .hbm, ⟨11, _⟩ => ⟨S1x12288, .f32⟩
  | .hbm, ⟨12, _⟩ => ⟨S4096x12288, .bf16⟩
  | .hbm, ⟨13, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S8192x4096 : Shape := ⟨2, ![8192, 4096]⟩
abbrev S4096x12288 : Shape := ⟨2, ![4096, 12288]⟩
abbrev S8192x12288 : Shape := ⟨2, ![8192, 12288]⟩
abbrev S8192x2048 : Shape := ⟨2, ![8192, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S8192x12288, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S_ : Shape := ⟨0, ![]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S_, .f32⟩
  | .hbm, ⟨4, _⟩ => ⟨S1x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.UpValue.lean ====
/-
  The first product of the feed-forward part: every point of the grid writes one block of 1024 rows and 1024 columns
  of the squared relu of the product, the blocks cover the array, and the reference's array is the same one.
-/
module

public import proofs.«01_k».proof.Proof.Gen.UpIdeal.Value
public import proofs.«01_k».proof.Proof.Gen.UpRefIdeal.Read
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 16384
set_option maxHeartbeats 1000000

noncomputable section

namespace Cert.UpIdeal.Array

open Idealize.ShloMosaic Idealize.ShloMosaic.TcCoe Idealize.SL.Sem
open Idealize.ShloMosaic.Pipeline (Dat)
open Cert.UpIdeal Cert.UpIdeal.Gen

theorem zero2 : (![0, 0] : Fin 2 → ℕ) = fun _ => 0 := funext fun a => by fin_cases a <;> rfl

section
variable {F : FTy → Type} [FloatOps F]

/-- The block a point stores, from the blocks it reads. -/
theorem out_A (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1024x1024 .f32) (harg7 : arg7.IsWhole)
    (x0 : Vec F S1024x4096 .bf16) (x1 : Vec F S4096x1024 .bf16) (x2 : Vec F S1x1024 .f32) :
    out0_A_3 c i arg3 harg3 arg4 harg4 arg5 harg5 arg6 harg6 arg7 harg7 x0 x1 x2 = k0_pay1 x0 x1 := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero zero2]
  simp only [View.readAt_eq_ld, harg3.read_unread, harg4.read_unread, View.ld_unit_zero (S := S1024x4096) zero2, View.ld_unit_zero (S := S4096x1024) zero2]
end

/-- The squared relu. -/
def act (s : EReal) : EReal := max s 0 * max s 0

/-- Entry `(x, y)` of the stored block. -/
theorem pay_apply (x0 : Vec Ideal S1024x4096 .bf16) (x1 : Vec Ideal S4096x1024 .bf16) (x y : Fin 1024) :
    k0_pay1 x0 x1 (ix2 x y) = act (∑ k : Fin 4096, x0 (ix2 x k) * x1 (ix2 k y)) := by
  pointwise [k0_pay1]
  rfl

variable (m : (ℓ : Loc nD τ sig) → Buf (Elt Ideal) ℓ) (c : Dev nD)

/-- The weights, cast. -/
theorem V_weights : V m c main_v0 = (truncf .bf16 · bitsLt_bf16_f32 : FVec Ideal S4096x16384 .f32 → FVec Ideal S4096x16384 .bf16) (m (c, main_arg1)) := by
  unfold_abbrev_sides
  simp only [hostOps0, List.flatten_cons, List.flatten_nil, List.append_nil, List.cons_append, List.nil_append]
  after_results
  try rfl

/-- The block indices of the windows. -/
theorem idx_facts : ∀ t : Fin grid0.N,
    (win0_0.index t 0 = t.val / 16 ∧ win0_0.index t 1 = 0) ∧ (win0_1.index t 0 = 0 ∧ win0_1.index t 1 = t.val % 16) ∧
    (win0_3.index t 0 = t.val / 16 ∧ win0_3.index t 1 = t.val % 16) := by
  decide +kernel

theorem lt128 (t : Fin grid0.N) : t.val < 128 := lt_of_lt_of_eq t.isLt N_0

theorem rows_block (t : Fin grid0.N) (x : Fin 1024) (k : Fin 4096) :
    (iblk m c 0 t : Vec Ideal S1024x4096 .bf16) (ix2 x k) =
      m (c, main_arg0) (ix2 ⟨t.val / 16 * 1024 + x.val, by have := lt128 t; omega⟩ k) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 1024 + 1 * x.val = t.val / 16 * 1024 + x.val; rw [h0]; omega
  | ⟨1, _⟩ => show win0_0.index t 1 * 4096 + 1 * k.val = k.val; rw [h1]; omega

theorem weights_block (t : Fin grid0.N) (k : Fin 4096) (y : Fin 1024) :
    (iblk m c 1 t : Vec Ideal S4096x1024 .bf16) (ix2 k y) =
      m (c, main_arg1) (ix2 k ⟨t.val % 16 * 1024 + y.val, by omega⟩) := by
  obtain ⟨_, ⟨h0, h1⟩, _⟩ := idx_facts t
  unfold iblk
  rw [View.read_apply]
  show V m c main_v0 _ = _
  rw [V_weights]
  show m (c, main_arg1) _ = _
  congr 1
  funext a
  apply Fin.ext
  match a with
  | ⟨0, _⟩ => show win0_1.index t 0 * 4096 + 1 * k.val = k.val; rw [h0]; omega
  | ⟨1, _⟩ => show win0_1.index t 1 * 1024 + 1 * y.val = t.val % 16 * 1024 + y.val; rw [h1]; omega

/-- The result array. -/
def spec (a : S8192x4096.Idx → EReal) (w : S4096x16384.Idx → EReal) : S8192x16384.Idx → EReal := fun i =>
  act (∑ k : Fin 4096, a (ix2 (n0 := 8192) (i 0) k) * w (ix2 (n1 := 16384) k (i 1)))

abbrev result : S8192x16384.Idx → EReal := spec (m (c, main_arg0)) (m (c, main_arg1))

theorem flushed_eq (t : Fin cfg0.N) :
    (dats m 0 c).flushed 3 t = ((cfg0.win 3).blk t).view.read (Elt Ideal) (result m c) := by
  rw [Value.flushed3_A, out_A]
  obtain ⟨_, _, h0, h1⟩ := idx_facts t
  refine funext fun (j : S1024x1024.Idx) => ?_
  obtain ⟨x, y, rfl⟩ : ∃ (x y : Fin 1024), j = ix2 x y := ⟨j 0, j 1, eq_ix2 j⟩
  refine (pay_apply _ _ x y).trans ?_
  rw [View.read_apply]
  have hj : (((cfg0.win 3).blk t).view.emb (ix2 x y) : S8192x16384.Idx)
      = ix2 ⟨t.val / 16 * 1024 + x.val, by have := lt128 t; omega⟩ ⟨t.val % 16 * 1024 + y.val, by omega⟩ := by
    funext a
    apply Fin.ext
    match a with
    | ⟨0, _⟩ => show win0_3.index t 0 * 1024 + 1 * x.val = t.val / 16 * 1024 + x.val; rw [h0]; omega
    | ⟨1, _⟩ => show win0_3.index t 1 * 1024 + 1 * y.val = t.val % 16 * 1024 + y.val; rw [h1]; omega
  refine Eq.trans ?_ (congrArg (result m c) hj).symm
  exact congrArg act (Finset.sum_congr rfl fun k _ => by rw [rows_block m c t x k, weights_block m c t k y]; rfl)

theorem final_eq : (dats m 0 c).arrAt 3 cfg0.N = result m c :=
  (dats m 0 c).arrAt_eq_of_cover 3 (result m c) (fun t _ => flushed_eq m c t) fun i => by
    have i0 : (i 0 : Nat) < 8192 := (i 0).isLt
    have i1 : (i 1 : Nat) < 16384 := (i 1).isLt
    let t : Fin grid0.N := ⟨(i 0 : Nat) / 1024 * 16 + (i 1 : Nat) / 1024, by rw [N_0]; omega⟩
    refine ⟨t, flush0_3 t, ?_⟩
    obtain ⟨_, _, h0, h1⟩ := idx_facts t
    have ht : t.val = (i 0 : Nat) / 1024 * 16 + (i 1 : Nat) / 1024 := rfl
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [h0]; omega
    | ⟨1, _⟩ =>
      show win0_3.index t 1 * 1024 ≤ (i 1 : Nat) ∧ (i 1 : Nat) < win0_3.index t 1 * 1024 + 1024
      rw [h1]; omega

open Cert.UpRefIdeal.Read in
/-- The reference's array is the result array. -/
theorem value (a : S8192x4096.Idx → EReal) (w : S4096x16384.Idx → EReal) :
    val_main_v4 (F := Ideal) a w = spec a w := by
  refine funext fun (j : S8192x16384.Idx) => ?_
  obtain ⟨x, y, rfl⟩ : ∃ (x : Fin 8192) (y : Fin 16384), j = ix2 x y := ⟨j 0, j 1, eq_ix2 j⟩
  have hs : val_main_v1 (F := Ideal) a w (ix2 x y) = ∑ k : Fin 4096, a (ix2 x k) * w (ix2 k y) := by
    rw [val_main_v1_apply]
    refine Finset.sum_congr rfl fun k _ => ?_
    have el : lidx_main_v1 (ix2 x y) k = ix2 x k := funext fun d => match d with
      | ⟨0, _⟩ => rfl
      | ⟨1, _⟩ => rfl
    have er : ridx_main_v1 (ix2 x y) k = ix2 k y := funext fun d => match d with
      | ⟨0, _⟩ => rfl
      | ⟨1, _⟩ => rfl
    rw [el, er]
    rfl
  rw [val_main_v4_apply, val_main_v3_apply, val_main_v2_apply, hs, val_main_call0_v0_apply, val_main_call0_cst_apply]
  show max (_ : EReal) (Ideal.ofBits FTy.f32 0#32) * max (_ : EReal) (Ideal.ofBits FTy.f32 0#32) = _
  rw [show Ideal.ofBits FTy.f32 0#32 = (0 : EReal) from by simp [Ideal.ofBits, Ideal.ieee]]
  rfl

end Cert.UpIdeal.Array

end
-- ==== Proof.Products.lean ====
/- A sum over 16384 terms as four sums of 4096. -/
module

public import Idealize.ShloMosaic.PureOps.Ideal

@[expose] public section

noncomputable section

namespace Cert.Products

/-- A sum of 16384 terms is the sum of its four runs of 4096, first to last. -/
theorem sum_four {M : Type} [AddCommMonoid M] (f : Fin 16384 → M) :
    ∑ k : Fin 16384, f k =
      ((∑ k : Fin 4096, f ⟨k.val, by omega⟩ + ∑ k : Fin 4096, f ⟨4096 + k.val, by omega⟩)
        + ∑ k : Fin 4096, f ⟨8192 + k.val, by omega⟩) + ∑ k : Fin 4096, f ⟨12288 + k.val, by omega⟩ := by
  have e := Fintype.sum_equiv (finProdFinEquiv (m := 4) (n := 4096)) (fun p => f (finProdFinEquiv p)) f fun _ => rfl
  rw [← e, Fintype.sum_prod_type, Fin.sum_univ_four]
  refine congrArg₂ (· + ·) (congrArg₂ (· + ·) (congrArg₂ (· + ·) ?_ ?_) ?_) ?_ <;>
    refine Finset.sum_congr rfl fun k _ => congrArg f (Fin.ext ?_) <;>
    simp [finProdFinEquiv] <;> omega

end Cert.Products

end
-- ==== Proof.DownValue.lean ====
/-
  The second product of the feed-forward part: four points of the grid add up one block of 1024 rows and 1024 columns
  of the product, one run of 4096 of the inner dimension each; the blocks cover the array, and the reference's array
  is the same one.
-/
module

public import proofs.«01_k».proof.Proof.Gen.DownIdeal.Value
public import proofs.«01_k».proof.Proof.Gen.DownRefIdeal.Read
public import proofs.«01_k».proof.Proof.Products
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 4096
set_option maxHeartbeats 1000000

noncomputable section

namespace Cert.DownIdeal.Array

open Idealize.ShloMosaic Idealize.ShloMosaic.TcCoe Idealize.SL.Sem
open Idealize.ShloMosaic.Pipeline (Dat)
open Cert.DownIdeal Cert.DownIdeal.Gen

theorem zero2 : (![0, 0] : Fin 2 → ℕ) = fun _ => 0 := funext fun a => by fin_cases a <;> rfl

section
variable {F : FTy → Type} [FloatOps F]

/-- What a first point leaves in the scratch. -/
theorem scratch_A (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : cond0_0 i) (hc1 : ¬cond0_1 i) (hc2 : ¬cond0_2 i)
    (x0 : Vec F S1024x4096 .bf16) (x1 : Vec F S4096x1024 .bf16) (x2 : Vec F S1x1024 .f32) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero zero2]
  simp only [View.readAt_eq_ld, harg3.read_unread, harg4.read_unread, View.ld_unit_zero (S := S1024x4096) zero2, View.ld_unit_zero (S := S4096x1024) zero2]

/-- What a middle point leaves in the scratch. -/
theorem scratch_B (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : cond0_1 i) (hc2 : ¬cond0_2 i)
    (x0 : Vec F S1024x4096 .bf16) (x1 : Vec F S4096x1024 .bf16) (x2 : Vec F S1x1024 .f32) (xs0 : Vec F S1024x1024 .f32) :
    sout0_B_0 c i arg3 harg3 arg4 harg4 arg5 harg5 arg6 harg6 arg7 harg7 hc0 hc1 hc2 x0 x1 x2 xs0 = k0_pay3 x0 x1 xs0 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero zero2]
  simp only [View.readAt_eq_ld, harg3.read_unread, harg4.read_unread, harg7.read_unread, View.ld_unit_zero (S := S1024x4096) zero2, View.ld_unit_zero (S := S4096x1024) zero2, View.ld_unit_zero (S := S1024x1024) zero2]

/-- The block a last point stores. -/
theorem out_C (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : ¬cond0_1 i) (hc2 : cond0_2 i)
    (x0 : Vec F S1024x4096 .bf16) (x1 : Vec F S4096x1024 .bf16) (x2 : Vec F S1x1024 .f32) (xs0 : Vec F S1024x1024 .f32) :
    out0_C_3 c i arg3 harg3 arg4 harg4 arg5 harg5 arg6 harg6 arg7 harg7 hc0 hc1 hc2 x0 x1 x2 xs0 = k0_pay4 x0 x1 xs0 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero zero2]
  simp only [View.readAt_eq_ld, harg3.read_unread, harg4.read_unread, harg7.read_unread, View.ld_unit_zero (S := S1024x4096) zero2, View.ld_unit_zero (S := S4096x1024) zero2, View.ld_unit_zero (S := S1024x1024) zero2]

end

/-- The product of two blocks. -/
def prod (x0 : S1024x4096.Idx → EReal) (x1 : S4096x1024.Idx → EReal) (x y : Fin 1024) : EReal :=
  ∑ k : Fin 4096, x0 (ix2 x k) * x1 (ix2 k y)

theorem pay2_apply (x0 : Vec Ideal S1024x4096 .bf16) (x1 : Vec Ideal S4096x1024 .bf16) (x y : Fin 1024) :
    k0_pay2 x0 x1 (ix2 x y) = prod x0 x1 x y := by
  pointwise [k0_pay2, k0_pay1]
  rfl

theorem pay3_apply (x0 : Vec Ideal S1024x4096 .bf16) (x1 : Vec Ideal S4096x1024 .bf16) (v : Vec Ideal S1024x1024 .f32) (x y : Fin 1024) :
    k0_pay3 x0 x1 v (ix2 x y) = v (ix2 x y) + prod x0 x1 x y := by
  pointwise [k0_pay3, k0_pay1]
  rfl

theorem pay4_apply (x0 : Vec Ideal S1024x4096 .bf16) (x1 : Vec Ideal S4096x1024 .bf16) (v : Vec Ideal S1024x1024 .f32) (x y : Fin 1024) :
    k0_pay4 x0 x1 v (ix2 x y) = v (ix2 x y) + prod x0 x1 x y := by
  pointwise [k0_pay4, k0_pay1]
  rfl

variable (m : (ℓ : Loc nD τ sig) → Buf (Elt Ideal) ℓ) (c : Dev nD)

/-- The weights, cast. -/
theorem V_weights : V m c main_v0 = (truncf .bf16 · bitsLt_bf16_f32 : FVec Ideal S16384x4096 .f32 → FVec Ideal S16384x4096 .bf16) (m (c, main_arg1)) := by
  unfold_abbrev_sides
  simp only [hostOps0, List.flatten_cons, List.flatten_nil, List.append_nil, List.cons_append, List.nil_append]
  after_results
  try rfl

/-- The block indices of the windows. -/
theorem idx_facts : ∀ t : Fin grid0.N,
    (win0_0.index t 0 = t.val / 16 ∧ win0_0.index t 1 = t.val % 4) ∧ (win0_1.index t 0 = t.val % 4 ∧ win0_1.index t 1 = t.val / 4 % 4) ∧
    (win0_3.index t 0 = t.val / 16 ∧ win0_3.index t 1 = t.val / 4 % 4) := by
  decide +kernel

theorem lt128 (t : Fin grid0.N) : t.val < 128 := lt_of_lt_of_eq t.isLt N_0

abbrev rowOf (t : Fin grid0.N) (x : Fin 1024) : Fin 8192 := ⟨t.val / 16 * 1024 + x.val, by have := lt128 t; omega⟩
abbrev colOf (t : Fin grid0.N) (y : Fin 1024) : Fin 4096 := ⟨t.val / 4 % 4 * 1024 + y.val, by omega⟩

theorem rows_block (t : Fin grid0.N) (x : Fin 1024) (k : Fin 4096) :
    (iblk m c 0 t : Vec Ideal S1024x4096 .bf16) (ix2 x k) =
      m (c, main_arg0) (ix2 (rowOf t x) ⟨t.val % 4 * 4096 + k.val, by omega⟩) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 1024 + 1 * x.val = t.val / 16 * 1024 + x.val; rw [h0]; omega
  | ⟨1, _⟩ => show win0_0.index t 1 * 4096 + 1 * k.val = t.val % 4 * 4096 + k.val; rw [h1]; omega

theorem weights_block (t : Fin grid0.N) (k : Fin 4096) (y : Fin 1024) :
    (iblk m c 1 t : Vec Ideal S4096x1024 .bf16) (ix2 k y) =
      m (c, main_arg1) (ix2 ⟨t.val % 4 * 4096 + k.val, by omega⟩ (colOf t y)) := by
  obtain ⟨_, ⟨h0, h1⟩, _⟩ := idx_facts t
  unfold iblk
  rw [View.read_apply]
  show V m c main_v0 _ = _
  rw [V_weights]
  show m (c, main_arg1) _ = _
  congr 1
  funext a
  apply Fin.ext
  match a with
  | ⟨0, _⟩ => show win0_1.index t 0 * 4096 + 1 * k.val = t.val % 4 * 4096 + k.val; rw [h0]; omega
  | ⟨1, _⟩ => show win0_1.index t 1 * 1024 + 1 * y.val = t.val / 4 % 4 * 1024 + y.val; rw [h1]; omega

/-- The part of entry `(x, y)` of the product from run `q` of the inner dimension. -/
def part (a : S8192x16384.Idx → EReal) (w : S16384x4096.Idx → EReal) (x : Fin 8192) (y : Fin 4096) (q : Fin 4) : EReal :=
  ∑ k : Fin 4096, a (ix2 x ⟨q.val * 4096 + k.val, by omega⟩) * w (ix2 ⟨q.val * 4096 + k.val, by omega⟩ y)

abbrev partAt (t : Fin grid0.N) (x y : Fin 1024) (q : Fin 4) : EReal :=
  part (m (c, main_arg0)) (m (c, main_arg1)) (rowOf t x) (colOf t y) q

/-- The product of a point's blocks is its part. -/
theorem prod_eq (t : Fin grid0.N) (x y : Fin 1024) (q : Fin 4) (hq : t.val % 4 = q.val) :
    prod (iblk m c 0 t) (iblk m c 1 t) x y = partAt m c t x y q := by
  obtain rfl : q = ⟨t.val % 4, Nat.mod_lt _ (by decide)⟩ := Fin.ext hq.symm
  unfold prod
  refine Finset.sum_congr rfl fun k _ => ?_
  rw [rows_block m c t x k, weights_block m c t k y]

/-- Consecutive points of one block have the same parts. -/
theorem part_prev (t s : Fin grid0.N) (h : s.val / 4 = t.val / 4) (x y : Fin 1024) (q : Fin 4) :
    partAt m c s x y q = partAt m c t x y q := by
  have hr : rowOf s x = rowOf t x := Fin.ext (by show s.val / 16 * 1024 + x.val = t.val / 16 * 1024 + x.val; omega)
  have hc : colOf s y = colOf t y := Fin.ext (by show s.val / 4 % 4 * 1024 + y.val = t.val / 4 % 4 * 1024 + y.val; omega)
  unfold partAt
  rw [hr, hc]

theorem scratch_first (t : Fin cfg0.N) (h : t.val % 4 = 0) (x y : Fin 1024) :
    (outsAt0 m c t.val t.isLt).2 (ix2 x y) = partAt m c t x y 0 := by
  simp only [outsAt0_A m c t h (by omega) (by omega)]
  rw [scratch_A]
  exact (pay2_apply _ _ x y).trans (prod_eq m c t x y 0 h)

theorem scratch_next (t s : Fin cfg0.N) (q : Fin 4) (h : t.val % 4 = q.val) (h1 : 1 ≤ q.val ∧ q.val ≤ 2) (hs : s.val = t.val - 1) (x y : Fin 1024) :
    (outsAt0 m c t.val t.isLt).2 (ix2 x y) = (outsAt0 m c s.val s.isLt).2 (ix2 x y) + partAt m c t x y q := by
  obtain rfl : s = ⟨t.val - 1, Nat.lt_of_le_of_lt (Nat.sub_le _ _) t.isLt⟩ := Fin.ext hs
  simp only [outsAt0_B m c t (by omega) (by omega) (by omega)]
  rw [scratch_B]
  refine (pay3_apply _ _ _ x y).trans ?_
  rw [prod_eq m c t x y q h]

/-- The block written back: the four parts, first to last. -/
theorem out_last (t : Fin cfg0.N) (h : t.val % 4 = 3) (x y : Fin 1024) :
    (outsAt0 m c t.val t.isLt).1 (ix2 x y) =
      ((partAt m c t x y 0 + partAt m c t x y 1) + partAt m c t x y 2) + partAt m c t x y 3 := by
  have ht := t.isLt
  let s2 : Fin cfg0.N := ⟨t.val - 1, by omega⟩
  let s1 : Fin cfg0.N := ⟨t.val - 2, by omega⟩
  let s0 : Fin cfg0.N := ⟨t.val - 3, by omega⟩
  have e0 := scratch_first m c s0 (by show (t.val - 3) % 4 = 0; omega) x y
  have e1 := scratch_next m c s1 s0 1 (by show (t.val - 2) % 4 = 1; omega) (by decide) (by show t.val - 3 = t.val - 2 - 1; omega) x y
  have e2 := scratch_next m c s2 s1 2 (by show (t.val - 1) % 4 = 2; omega) (by decide) (by show t.val - 2 = t.val - 1 - 1; omega) x y
  have p0 := part_prev m c t s0 (by show (t.val - 3) / 4 = t.val / 4; omega) x y 0
  have p1 := part_prev m c t s1 (by show (t.val - 2) / 4 = t.val / 4; omega) x y 1
  have p2 := part_prev m c t s2 (by show (t.val - 1) / 4 = t.val / 4; omega) x y 2
  rw [p0] at e0
  rw [p1, e0] at e1
  rw [p2, e1] at e2
  simp only [outsAt0_C m c t (by omega) (by omega) h]
  rw [out_C]
  refine (pay4_apply _ _ _ x y).trans ?_
  rw [prod_eq m c t x y 3 h]
  exact congrArg (· + _) e2

/-- The result array. -/
@[irreducible] def spec (a : S8192x16384.Idx → EReal) (w : S16384x4096.Idx → EReal) : S8192x4096.Idx → EReal := fun i =>
  ((part a w (i 0) (i 1) 0 + part a w (i 0) (i 1) 1) + part a w (i 0) (i 1) 2) + part a w (i 0) (i 1) 3

theorem spec_apply (a : S8192x16384.Idx → EReal) (w : S16384x4096.Idx → EReal) (x : Fin 8192) (y : Fin 4096) :
    spec a w (ix2 x y) = ((part a w x y 0 + part a w x y 1) + part a w x y 2) + part a w x y 3 := by
  unfold spec
  rfl

abbrev result : S8192x4096.Idx → EReal := spec (m (c, main_arg0)) (m (c, main_arg1))

theorem flushed_eq (t : Fin cfg0.N) (h : t.val % 4 = 3) :
    (dats m 0 c).flushed 3 t = ((cfg0.win 3).blk t).view.read (Elt Ideal) (result m c) := by
  rw [Value.flushed3]
  obtain ⟨_, _, h0, h1⟩ := idx_facts t
  refine funext fun (j : S1024x1024.Idx) => ?_
  obtain ⟨x, y, rfl⟩ : ∃ (x y : Fin 1024), j = ix2 x y := ⟨j 0, j 1, eq_ix2 j⟩
  refine (out_last m c t h x y).trans ?_
  rw [View.read_apply]
  have hj : (((cfg0.win 3).blk t).view.emb (ix2 x y) : S8192x4096.Idx) = ix2 (rowOf t x) (colOf t y) := by
    funext a
    apply Fin.ext
    match a with
    | ⟨0, _⟩ => show win0_3.index t 0 * 1024 + 1 * x.val = t.val / 16 * 1024 + x.val; rw [h0]; omega
    | ⟨1, _⟩ => show win0_3.index t 1 * 1024 + 1 * y.val = t.val / 4 % 4 * 1024 + y.val; rw [h1]; omega
  rw [hj, cast_eq]
  unfold result
  rw [spec_apply]

theorem final_eq : (dats m 0 c).arrAt 3 cfg0.N = result m c :=
  (dats m 0 c).arrAt_eq_of_cover 3 (result m c) (fun t h => flushed_eq m c t ((flush0_3 t).mp h)) fun i => by
    have i0 : (i 0 : Nat) < 8192 := (i 0).isLt
    have i1 : (i 1 : Nat) < 4096 := (i 1).isLt
    let t : Fin grid0.N := ⟨(i 0 : Nat) / 1024 * 16 + (i 1 : Nat) / 1024 * 4 + 3, by rw [N_0]; omega⟩
    have ht : t.val = (i 0 : Nat) / 1024 * 16 + (i 1 : Nat) / 1024 * 4 + 3 := rfl
    refine ⟨t, (flush0_3 t).mpr (by omega), ?_⟩
    obtain ⟨_, _, h0, h1⟩ := idx_facts t
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [h0]; omega
    | ⟨1, _⟩ =>
      show win0_3.index t 1 * 1024 ≤ (i 1 : Nat) ∧ (i 1 : Nat) < win0_3.index t 1 * 1024 + 1024
      rw [h1]; omega

open Cert.DownRefIdeal.Read in
/-- The reference's array is the result array. -/
theorem value (a : S8192x16384.Idx → EReal) (w : S16384x4096.Idx → EReal) :
    val_main_v1 (F := Ideal) a w = spec a w := by
  refine funext fun (j : S8192x4096.Idx) => ?_
  obtain ⟨x, y, rfl⟩ : ∃ (x : Fin 8192) (y : Fin 4096), j = ix2 x y := ⟨j 0, j 1, eq_ix2 j⟩
  rw [val_main_v1_apply, spec_apply]
  have hk : ∀ k : Fin 16384, (val_main_v0 (F := Ideal) a) (lidx_main_v1 (ix2 x y) k) * w (ridx_main_v1 (ix2 x y) k) = a (ix2 x k) * w (ix2 k y) := by
    intro k
    have el : lidx_main_v1 (ix2 x y) k = ix2 x k := funext fun d => match d with
      | ⟨0, _⟩ => rfl
      | ⟨1, _⟩ => rfl
    have er : ridx_main_v1 (ix2 x y) k = ix2 k y := funext fun d => match d with
      | ⟨0, _⟩ => rfl
      | ⟨1, _⟩ => rfl
    rw [el, er]
    rfl
  refine (Finset.sum_congr rfl fun k _ => hk k).trans ((Cert.Products.sum_four fun k => a (ix2 x k) * w (ix2 k y)).trans ?_)
  have hp : ∀ (q : Fin 4) (n : ℕ) (hn : n + 4096 ≤ 16384), n = q.val * 4096 →
      ∑ k : Fin 4096, a (ix2 x ⟨n + k.val, by omega⟩) * w (ix2 ⟨n + k.val, by omega⟩ y) = part a w x y q := by
    rintro q n hn rfl
    rfl
  refine congrArg₂ (· + ·) (congrArg₂ (· + ·) (congrArg₂ (· + ·) ?_ (hp 1 4096 (by omega) rfl)) (hp 2 8192 (by omega) rfl)) (hp 3 12288 (by omega) rfl)
  refine (Finset.sum_congr rfl fun k _ => ?_).trans (hp 0 0 (by omega) rfl)
  simp only [Nat.zero_add]

end Cert.DownIdeal.Array

end
-- ==== Proof.InProjValue.lean ====
/-
  The combined projection: every point of the grid writes one block of 1024 rows and 1024 columns of the product,
  each column times its factor; the blocks cover the array, and the reference, which scales the two groups of
  queries after the product is split, has the same array.
-/
module

public import proofs.«01_k».proof.Proof.Gen.InProjIdeal.Value
public import proofs.«01_k».proof.Proof.Gen.InProjRefIdeal.Read
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 12288
set_option maxHeartbeats 1000000

noncomputable section

namespace Cert.InProjIdeal.Array

open Idealize.ShloMosaic Idealize.ShloMosaic.TcCoe Idealize.SL.Sem
open Idealize.ShloMosaic.Pipeline (Dat)
open Cert.InProjIdeal Cert.InProjIdeal.Gen

theorem zero2 : (![0, 0] : Fin 2 → ℕ) = fun _ => 0 := funext fun a => by fin_cases a <;> rfl

section
variable {F : FTy → Type} [FloatOps F]

/-- The block a point stores, from the blocks it reads. -/
theorem out_A (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (x0 : Vec F S1024x4096 .bf16) (x1 : Vec F S4096x1024 .bf16) (x2 : Vec F S1x1024 .f32) :
    out0_A_3 c i arg3 harg3 arg4 harg4 arg5 harg5 arg6 harg6 arg7 harg7 x0 x1 x2 = k0_pay1 x0 x1 x2 := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero zero2]
  simp only [View.readAt_eq_ld, harg3.read_unread, harg4.read_unread, harg5.read_unread, View.ld_unit_zero (S := S1024x4096) zero2, View.ld_unit_zero (S := S4096x1024) zero2, View.ld_unit_zero (S := S1x1024) zero2]
end

/-- The factor of a column: the two groups of queries are scaled. -/
def factor (y : Fin 12288) : EReal :=
  if y.val < 2048 then Ideal.ofBits FTy.f32 0x3DB504F3#32
  else if y.val < 6144 then 1
  else if y.val < 8192 then Ideal.ofBits FTy.f32 0x3E000000#32
  else 1

/-- Entry `(x, y)` of the stored block. -/
theorem pay_apply (x0 : Vec Ideal S1024x4096 .bf16) (x1 : Vec Ideal S4096x1024 .bf16) (x2 : Vec Ideal S1x1024 .f32) (x y : Fin 1024) :
    k0_pay1 x0 x1 x2 (ix2 x y) = (∑ k : Fin 4096, x0 (ix2 x k) * x1 (ix2 k y)) * x2 (ix2 0 y) := by
  pointwise [k0_pay1]

variable (m : (ℓ : Loc nD τ sig) → Buf (Elt Ideal) ℓ) (c : Dev nD)

/-- The weights, cast. -/
theorem V_weights : V m c main_v6 = (truncf .bf16 · bitsLt_bf16_f32 : FVec Ideal S4096x12288 .f32 → FVec Ideal S4096x12288 .bf16) (m (c, main_arg1)) := by
  unfold_abbrev_sides
  simp only [hostOps0, List.flatten_cons, List.flatten_nil, List.append_nil, List.cons_append, List.nil_append]
  after_results
  try rfl

/-- The row of factors, as the program makes it. -/
def row : FVec Ideal S1x12288 .f32 :=
  shapeCast S1x12288 (concatenate S12288 0
    [⟨S2048, (broadcastInDim S2048 ![] bcast_S_S2048 (constant S_ .f32 0x3DB504F3#32) : FVec Ideal S2048 .f32)⟩,
     ⟨S4096, (broadcastInDim S4096 ![] bcast_S_S4096 (constant S_ .f32 0x3F800000#32) : FVec Ideal S4096 .f32)⟩,
     ⟨S2048, (broadcastInDim S2048 ![] bcast_S_S2048 (constant S_ .f32 0x3E000000#32) : FVec Ideal S2048 .f32)⟩,
     ⟨S4096, (broadcastInDim S4096 ![] bcast_S_S4096 (constant S_ .f32 0x3F800000#32) : FVec Ideal S4096 .f32)⟩]
    concatenates_S2048_S4096_S2048_S4096_S12288_d0) shapeCasts_S12288_S1x12288

theorem row_apply (y : Fin 12288) : row (ix2 0 y) = factor y := by
  pointwise [row]
  unfold factor
  split_ifs <;> first | rfl | (exfalso; omega)

theorem V_row : V m c main_v5 = row := by
  unfold_abbrev_sides
  simp only [hostOps0, List.flatten_cons, List.flatten_nil, List.append_nil, List.cons_append, List.nil_append]
  after_results
  rfl

/-- The block indices of the windows. -/
theorem idx_facts : ∀ t : Fin grid0.N,
    (win0_0.index t 0 = t.val / 12 ∧ win0_0.index t 1 = 0) ∧ (win0_1.index t 0 = 0 ∧ win0_1.index t 1 = t.val % 12) ∧
    (win0_2.index t 0 = 0 ∧ win0_2.index t 1 = t.val % 12) ∧
    (win0_3.index t 0 = t.val / 12 ∧ win0_3.index t 1 = t.val % 12) := by
  decide +kernel

theorem lt96 (t : Fin grid0.N) : t.val < 96 := lt_of_lt_of_eq t.isLt N_0

theorem rows_block (t : Fin grid0.N) (x : Fin 1024) (k : Fin 4096) :
    (iblk m c 0 t : Vec Ideal S1024x4096 .bf16) (ix2 x k) =
      m (c, main_arg0) (ix2 ⟨t.val / 12 * 1024 + x.val, by have := lt96 t; omega⟩ k) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 1024 + 1 * x.val = t.val / 12 * 1024 + x.val; rw [h0]; omega
  | ⟨1, _⟩ => show win0_0.index t 1 * 4096 + 1 * k.val = k.val; rw [h1]; omega

theorem weights_block (t : Fin grid0.N) (k : Fin 4096) (y : Fin 1024) :
    (iblk m c 1 t : Vec Ideal S4096x1024 .bf16) (ix2 k y) =
      m (c, main_arg1) (ix2 k ⟨t.val % 12 * 1024 + y.val, by omega⟩) := by
  obtain ⟨_, ⟨h0, h1⟩, _⟩ := idx_facts t
  unfold iblk
  rw [View.read_apply]
  show V m c main_v6 _ = _
  rw [V_weights]
  show m (c, main_arg1) _ = _
  congr 1
  funext a
  apply Fin.ext
  match a with
  | ⟨0, _⟩ => show win0_1.index t 0 * 4096 + 1 * k.val = k.val; rw [h0]; omega
  | ⟨1, _⟩ => show win0_1.index t 1 * 1024 + 1 * y.val = t.val % 12 * 1024 + y.val; rw [h1]; omega

theorem factor_block (t : Fin grid0.N) (y : Fin 1024) :
    (iblk m c 2 t : Vec Ideal S1x1024 .f32) (ix2 0 y) = factor ⟨t.val % 12 * 1024 + y.val, by omega⟩ := by
  obtain ⟨_, _, ⟨h0, h1⟩, _⟩ := idx_facts t
  rw [← row_apply]
  unfold iblk
  rw [View.read_apply]
  show V m c main_v5 _ = _
  rw [V_row]
  show row _ = _
  congr 1
  funext a
  apply Fin.ext
  match a with
  | ⟨0, _⟩ => show win0_2.index t 0 * 1 + 1 * 0 = 0; rw [h0]
  | ⟨1, _⟩ => show win0_2.index t 1 * 1024 + 1 * y.val = t.val % 12 * 1024 + y.val; rw [h1]; omega

/-- The result array. -/
def spec (a : S8192x4096.Idx → EReal) (w : S4096x12288.Idx → EReal) : S8192x12288.Idx → EReal := fun i =>
  (∑ k : Fin 4096, a (ix2 (n0 := 8192) (i 0) k) * w (ix2 (n1 := 12288) k (i 1))) * factor (i 1)

abbrev result : S8192x12288.Idx → EReal := spec (m (c, main_arg0)) (m (c, main_arg1))

theorem flushed_eq (t : Fin cfg0.N) :
    (dats m 0 c).flushed 3 t = ((cfg0.win 3).blk t).view.read (Elt Ideal) (result m c) := by
  rw [Value.flushed3_A, out_A]
  obtain ⟨_, _, _, h0, h1⟩ := idx_facts t
  refine funext fun (j : S1024x1024.Idx) => ?_
  obtain ⟨x, y, rfl⟩ : ∃ (x y : Fin 1024), j = ix2 x y := ⟨j 0, j 1, eq_ix2 j⟩
  refine (pay_apply _ _ _ x y).trans ?_
  rw [View.read_apply]
  have hj : (((cfg0.win 3).blk t).view.emb (ix2 x y) : S8192x12288.Idx)
      = ix2 ⟨t.val / 12 * 1024 + x.val, by have := lt96 t; omega⟩ ⟨t.val % 12 * 1024 + y.val, by omega⟩ := by
    funext a
    apply Fin.ext
    match a with
    | ⟨0, _⟩ => show win0_3.index t 0 * 1024 + 1 * x.val = t.val / 12 * 1024 + x.val; rw [h0]; omega
    | ⟨1, _⟩ => show win0_3.index t 1 * 1024 + 1 * y.val = t.val % 12 * 1024 + y.val; rw [h1]; omega
  refine Eq.trans ?_ (congrArg (result m c) hj).symm
  exact congrArg₂ (· * ·) (Finset.sum_congr rfl fun k _ => by rw [rows_block m c t x k, weights_block m c t k y]; rfl) (factor_block m c t y)

theorem final_eq : (dats m 0 c).arrAt 3 cfg0.N = result m c :=
  (dats m 0 c).arrAt_eq_of_cover 3 (result m c) (fun t _ => flushed_eq m c t) fun i => by
    have i0 : (i 0 : Nat) < 8192 := (i 0).isLt
    have i1 : (i 1 : Nat) < 12288 := (i 1).isLt
    let t : Fin grid0.N := ⟨(i 0 : Nat) / 1024 * 12 + (i 1 : Nat) / 1024, by rw [N_0]; omega⟩
    refine ⟨t, flush0_3 t, ?_⟩
    obtain ⟨_, _, _, h0, h1⟩ := idx_facts t
    have ht : t.val = (i 0 : Nat) / 1024 * 12 + (i 1 : Nat) / 1024 := rfl
    show i ∈ ((View.whole main_v7).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [h0]; omega
    | ⟨1, _⟩ =>
      show win0_3.index t 1 * 1024 ≤ (i 1 : Nat) ∧ (i 1 : Nat) < win0_3.index t 1 * 1024 + 1024
      rw [h1]; omega

open Cert.InProjRefIdeal.Read in
/-- The reference's array is the result array. -/
theorem value (a : S8192x4096.Idx → EReal) (w : S4096x12288.Idx → EReal) :
    val_main_v12 (F := Ideal) a w = spec a w := by
  refine funext fun (j : S8192x12288.Idx) => ?_
  obtain ⟨x, y, rfl⟩ : ∃ (x : Fin 8192) (y : Fin 12288), j = ix2 x y := ⟨j 0, j 1, eq_ix2 j⟩
  have hs : ∀ z : Fin 12288, val_main_v1 (F := Ideal) a w (ix2 x z) = ∑ k : Fin 4096, a (ix2 x k) * w (ix2 k z) := by
    intro z
    rw [val_main_v1_apply]
    refine Finset.sum_congr rfl fun k _ => ?_
    have el : lidx_main_v1 (ix2 x z) k = ix2 x k := funext fun d => match d with
      | ⟨0, _⟩ => rfl
      | ⟨1, _⟩ => rfl
    have er : ridx_main_v1 (ix2 x z) k = ix2 k z := funext fun d => match d with
      | ⟨0, _⟩ => rfl
      | ⟨1, _⟩ => rfl
    rw [el, er]
    rfl
  show _ = (∑ k : Fin 4096, a (ix2 x k) * w (ix2 k y)) * factor y
  rw [← hs]
  unfold val_main_v12 val_main_v9 val_main_v11 val_main_v10 val_main_v8 val_main_cst val_main_cst_0 val_main_v7 val_main_v6 val_main_v5 val_main_v4 val_main_v3 val_main_v2
  generalize val_main_v1 (F := Ideal) a w = p
  pointwise
  have e : ∀ z : Fin 12288, z.val = y.val → p (ix2 x z) = p (ix2 x y) := fun z h => by rw [Fin.ext h]
  have f1 : ¬ y.val < 2048 → y.val < 6144 → factor y = 1 := fun h h' => by unfold factor; rw [if_neg h, if_pos h']
  have f2 : ¬ y.val < 6144 → y.val < 8192 → factor y = Ideal.ofBits FTy.f32 0x3E000000#32 := fun h h' => by
    unfold factor; rw [if_neg (by omega), if_neg h, if_pos h']
  have f3 : ¬ y.val < 8192 → factor y = 1 := fun h => by
    unfold factor; rw [if_neg (by omega), if_neg (by omega), if_neg h]
  split
  · rename_i h
    unfold factor
    rw [if_pos h]
  · split
    · rw [e _ (by simp only; omega), f1 (by omega) (by omega), mul_one]
    · split
      · rw [e _ (by simp only; omega), f1 (by omega) (by omega), mul_one]
      · split
        · rw [e _ (by simp only; omega), f2 (by omega) (by omega)]
        · split
          · rw [e _ (by simp only; omega), f3 (by omega), mul_one]
          · rw [e _ (by simp only; omega), f3 (by omega), mul_one]

end Cert.InProjIdeal.Array

end
-- ==== Proof.OutProjValue.lean ====
/-
  The projection of the mixed heads: every point of the grid writes one block of 1024 rows and 1024 columns of the
  product, the blocks cover the array, and the reference's array is the same one.
-/
module

public import proofs.«01_k».proof.Proof.Gen.OutProjIdeal.Value
public import proofs.«01_k».proof.Proof.Gen.OutProjRefIdeal.Read
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 4096
set_option maxHeartbeats 1000000

noncomputable section

namespace Cert.OutProjIdeal.Array

open Idealize.ShloMosaic Idealize.ShloMosaic.TcCoe Idealize.SL.Sem
open Idealize.ShloMosaic.Pipeline (Dat)
open Cert.OutProjIdeal Cert.OutProjIdeal.Gen

theorem zero2 : (![0, 0] : Fin 2 → ℕ) = fun _ => 0 := funext fun a => by fin_cases a <;> rfl

section
variable {F : FTy → Type} [FloatOps F]

/-- The block a point stores, from the blocks it reads. -/
theorem out_A (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (x0 : Vec F S1024x4096 .bf16) (x1 : Vec F S4096x1024 .bf16) (x2 : Vec F S1x1024 .f32) :
    out0_A_3 c i arg3 harg3 arg4 harg4 arg5 harg5 arg6 harg6 arg7 harg7 x0 x1 x2 = k0_pay1 x0 x1 := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero zero2]
  simp only [View.readAt_eq_ld, harg3.read_unread, harg4.read_unread, View.ld_unit_zero (S := S1024x4096) zero2, View.ld_unit_zero (S := S4096x1024) zero2]
end

/-- Entry `(x, y)` of the stored block. -/
theorem pay_apply (x0 : Vec Ideal S1024x4096 .bf16) (x1 : Vec Ideal S4096x1024 .bf16) (x y : Fin 1024) :
    k0_pay1 x0 x1 (ix2 x y) = ∑ k : Fin 4096, x0 (ix2 x k) * x1 (ix2 k y) := by
  pointwise [k0_pay1]

variable (m : (ℓ : Loc nD τ sig) → Buf (Elt Ideal) ℓ) (c : Dev nD)

/-- The weights, cast. -/
theorem V_weights : V m c main_v0 = (truncf .bf16 · bitsLt_bf16_f32 : FVec Ideal S4096x4096 .f32 → FVec Ideal S4096x4096 .bf16) (m (c, main_arg1)) := by
  unfold_abbrev_sides
  simp only [hostOps0, List.flatten_cons, List.flatten_nil, List.append_nil, List.cons_append, List.nil_append]
  after_results
  try rfl

/-- The block indices of the windows. -/
theorem idx_facts : ∀ t : Fin grid0.N,
    (win0_0.index t 0 = t.val / 4 ∧ win0_0.index t 1 = 0) ∧ (win0_1.index t 0 = 0 ∧ win0_1.index t 1 = t.val % 4) ∧
    (win0_3.index t 0 = t.val / 4 ∧ win0_3.index t 1 = t.val % 4) := by
  decide +kernel

theorem lt32 (t : Fin grid0.N) : t.val < 32 := lt_of_lt_of_eq t.isLt N_0

theorem rows_block (t : Fin grid0.N) (x : Fin 1024) (k : Fin 4096) :
    (iblk m c 0 t : Vec Ideal S1024x4096 .bf16) (ix2 x k) =
      m (c, main_arg0) (ix2 ⟨t.val / 4 * 1024 + x.val, by have := lt32 t; omega⟩ k) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 1024 + 1 * x.val = t.val / 4 * 1024 + x.val; rw [h0]; omega
  | ⟨1, _⟩ => show win0_0.index t 1 * 4096 + 1 * k.val = k.val; rw [h1]; omega

theorem weights_block (t : Fin grid0.N) (k : Fin 4096) (y : Fin 1024) :
    (iblk m c 1 t : Vec Ideal S4096x1024 .bf16) (ix2 k y) =
      m (c, main_arg1) (ix2 k ⟨t.val % 4 * 1024 + y.val, by omega⟩) := by
  obtain ⟨_, ⟨h0, h1⟩, _⟩ := idx_facts t
  unfold iblk
  rw [View.read_apply]
  show V m c main_v0 _ = _
  rw [V_weights]
  show m (c, main_arg1) _ = _
  congr 1
  funext a
  apply Fin.ext
  match a with
  | ⟨0, _⟩ => show win0_1.index t 0 * 4096 + 1 * k.val = k.val; rw [h0]; omega
  | ⟨1, _⟩ => show win0_1.index t 1 * 1024 + 1 * y.val = t.val % 4 * 1024 + y.val; rw [h1]; omega

/-- The result array. -/
@[irreducible] def spec (a : S8192x4096.Idx → EReal) (w : S4096x4096.Idx → EReal) : S8192x4096.Idx → EReal := fun i =>
  ∑ k : Fin 4096, a (ix2 (n0 := 8192) (i 0) k) * w (ix2 (n1 := 4096) k (i 1))

theorem spec_apply (a : S8192x4096.Idx → EReal) (w : S4096x4096.Idx → EReal) (x : Fin 8192) (y : Fin 4096) :
    spec a w (ix2 x y) = ∑ k : Fin 4096, a (ix2 x k) * w (ix2 k y) := by
  unfold spec
  rfl

abbrev result : S8192x4096.Idx → EReal := spec (m (c, main_arg0)) (m (c, main_arg1))

theorem flushed_eq (t : Fin cfg0.N) :
    (dats m 0 c).flushed 3 t = ((cfg0.win 3).blk t).view.read (Elt Ideal) (result m c) := by
  rw [Value.flushed3_A, out_A]
  obtain ⟨_, _, h0, h1⟩ := idx_facts t
  refine funext fun (j : S1024x1024.Idx) => ?_
  obtain ⟨x, y, rfl⟩ : ∃ (x y : Fin 1024), j = ix2 x y := ⟨j 0, j 1, eq_ix2 j⟩
  refine (pay_apply _ _ x y).trans ?_
  rw [View.read_apply]
  have hj : (((cfg0.win 3).blk t).view.emb (ix2 x y) : S8192x4096.Idx)
      = ix2 ⟨t.val / 4 * 1024 + x.val, by have := lt32 t; omega⟩ ⟨t.val % 4 * 1024 + y.val, by omega⟩ := by
    funext a
    apply Fin.ext
    match a with
    | ⟨0, _⟩ => show win0_3.index t 0 * 1024 + 1 * x.val = t.val / 4 * 1024 + x.val; rw [h0]; omega
    | ⟨1, _⟩ => show win0_3.index t 1 * 1024 + 1 * y.val = t.val % 4 * 1024 + y.val; rw [h1]; omega
  rw [hj, cast_eq]
  unfold result
  rw [spec_apply]
  exact Finset.sum_congr rfl fun k _ => by rw [rows_block m c t x k, weights_block m c t k y]

theorem final_eq : (dats m 0 c).arrAt 3 cfg0.N = result m c :=
  (dats m 0 c).arrAt_eq_of_cover 3 (result m c) (fun t _ => flushed_eq m c t) fun i => by
    have i0 : (i 0 : Nat) < 8192 := (i 0).isLt
    have i1 : (i 1 : Nat) < 4096 := (i 1).isLt
    let t : Fin grid0.N := ⟨(i 0 : Nat) / 1024 * 4 + (i 1 : Nat) / 1024, by rw [N_0]; omega⟩
    refine ⟨t, flush0_3 t, ?_⟩
    obtain ⟨_, _, h0, h1⟩ := idx_facts t
    have ht : t.val = (i 0 : Nat) / 1024 * 4 + (i 1 : Nat) / 1024 := rfl
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [h0]; omega
    | ⟨1, _⟩ =>
      show win0_3.index t 1 * 1024 ≤ (i 1 : Nat) ∧ (i 1 : Nat) < win0_3.index t 1 * 1024 + 1024
      rw [h1]; omega

open Cert.OutProjRefIdeal.Read in
/-- The reference's array is the result array. -/
theorem value (a : S8192x4096.Idx → EReal) (w : S4096x4096.Idx → EReal) :
    val_main_v1 (F := Ideal) a w = spec a w := by
  refine funext fun (j : S8192x4096.Idx) => ?_
  obtain ⟨x, y, rfl⟩ : ∃ (x : Fin 8192) (y : Fin 4096), j = ix2 x y := ⟨j 0, j 1, eq_ix2 j⟩
  rw [val_main_v1_apply, spec_apply]
  refine Finset.sum_congr rfl fun k _ => ?_
  have el : lidx_main_v1 (ix2 x y) k = ix2 x k := funext fun d => match d with
    | ⟨0, _⟩ => rfl
    | ⟨1, _⟩ => rfl
  have er : ridx_main_v1 (ix2 x y) k = ix2 k y := funext fun d => match d with
    | ⟨0, _⟩ => rfl
    | ⟨1, _⟩ => rfl
  rw [el, er]
  rfl

end Cert.OutProjIdeal.Array

end
-- ==== Proof.RowNorm.lean ====
/-
  The norm of a row of 4096 entries with its gain.
-/
module

public import Idealize.ShloMosaic.Lib.Pointwise

@[expose] public section

noncomputable section

namespace Cert.RowNorm

open Idealize.ShloMosaic

/-- The row over the root of its mean square, times the gain. -/
def row (r g : Fin 4096 → EReal) (k : Fin 4096) : EReal :=
  r k * Ideal.rsqrt (Ideal.div (∑ x, r x * r x) (Ideal.ofBits FTy.f32 0x45800000#32) + Ideal.ofBits FTy.f32 0x358637BD#32) * g k

end Cert.RowNorm

end
-- ==== Proof.NormValue.lean ====
/-
  The norm before the first layer: every point of the grid normalises 512 rows, the blocks cover the array, and the
  reference's array is the same one.
-/
module

public import proofs.«01_k».proof.Proof.RowNorm
public import proofs.«01_k».proof.Proof.Gen.NormIdeal.Value
public import proofs.«01_k».proof.Proof.Gen.NormRefIdeal.Read
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 16384
set_option maxHeartbeats 1000000

noncomputable section

namespace Cert.NormIdeal.Array

open Idealize.ShloMosaic Idealize.ShloMosaic.TcCoe Idealize.SL.Sem
open Idealize.ShloMosaic.Pipeline (Dat)
open Cert.NormIdeal Cert.NormIdeal.Gen
open Cert.RowNorm (row)

theorem zero2 : (![0, 0] : Fin 2 → ℕ) = fun _ => 0 := funext fun a => by fin_cases a <;> rfl

section
variable {F : FTy → Type} [FloatOps F]

/-- The block a point stores, from the blocks it reads. -/
theorem out_eq (x0 : Vec F S512x4096 .f32) (x1 : Vec F S1x4096 .f32) : out0_2 x0 x1 = k0_pay1 x0 x1 := by
  unfold out0_2
  rw [View.canon_unit_zero zero2]
  simp only [View.ld_unit_zero (S := S512x4096) zero2, View.ld_unit_zero (S := S1x4096) zero2]
end

/-- Entry `(p, k)` of the stored block. -/
theorem pay_apply (x0 : Vec Ideal S512x4096 .f32) (x1 : Vec Ideal S1x4096 .f32) (p : Fin 512) (k : Fin 4096) :
    k0_pay1 x0 x1 (ix2 p k) = row (fun k => x0 (ix2 p k)) (fun k => x1 (ix2 0 k)) k := by
  pointwise [k0_pay1]
  rfl

variable (m : (ℓ : Loc nD τ sig) → Buf (Elt Ideal) ℓ) (c : Dev nD)

/-- The gain as a row. -/
theorem V_gain : V m c main_v0 = shapeCast S1x4096 (m (c, main_arg1)) shapeCasts_S4096_S1x4096 := by
  unfold_abbrev_sides
  simp only [hostOps0, List.flatten_cons, List.flatten_nil, List.append_nil, List.cons_append, List.nil_append]
  after_results
  try rfl

/-- The block indices of the windows. -/
theorem idx_facts : ∀ t : Fin grid0.N,
    (win0_0.index t 0 = t.val ∧ win0_0.index t 1 = 0) ∧ (win0_1.index t 0 = 0 ∧ win0_1.index t 1 = 0) ∧
    (win0_2.index t 0 = t.val ∧ win0_2.index t 1 = 0) := by
  decide +kernel

theorem lt16 (t : Fin grid0.N) : t.val < 16 := lt_of_lt_of_eq t.isLt N_0

theorem rows_block (t : Fin grid0.N) (p : Fin 512) (k : Fin 4096) :
    (iblk m c 0 t : Vec Ideal S512x4096 .f32) (ix2 p k) =
      m (c, main_arg0) (ix2 ⟨t.val * 512 + p.val, by have := lt16 t; omega⟩ k) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 512 + 1 * p.val = t.val * 512 + p.val; rw [h0]; omega
  | ⟨1, _⟩ => show win0_0.index t 1 * 4096 + 1 * k.val = k.val; rw [h1]; omega

theorem cast_row (g : S4096.Idx → EReal) (k : Fin 4096) :
    (shapeCast S1x4096 (g : Vec Ideal S4096 .f32) shapeCasts_S4096_S1x4096) (ix2 0 k) = g (ix1 k) := by pointwise []

theorem gain_block (t : Fin grid0.N) (k : Fin 4096) :
    (iblk m c 1 t : Vec Ideal S1x4096 .f32) (ix2 0 k) = m (c, main_arg1) (ix1 k) := by
  obtain ⟨_, ⟨h0, h1⟩, _⟩ := idx_facts t
  unfold iblk
  rw [View.read_apply]
  show V m c main_v0 _ = _
  rw [V_gain]
  refine Eq.trans ?_ (cast_row _ k)
  congr 1
  funext a
  apply Fin.ext
  match a with
  | ⟨0, _⟩ => show win0_1.index t 0 * 1 + 1 * 0 = 0; rw [h0]
  | ⟨1, _⟩ => show win0_1.index t 1 * 4096 + 1 * k.val = k.val; rw [h1]; omega

/-- The result array. -/
def spec (x : S8192x4096.Idx → EReal) (g : S4096.Idx → EReal) : S8192x4096.Idx → EReal := fun i =>
  row (fun k => x (ix2 (n0 := 8192) (i 0) k)) (fun k => g (ix1 k)) (i 1)

abbrev result : S8192x4096.Idx → EReal := spec (m (c, main_arg0)) (m (c, main_arg1))

theorem flushed_eq (t : Fin cfg0.N) :
    (dats m 0 c).flushed 2 t = ((cfg0.win 2).blk t).view.read (Elt Ideal) (result m c) := by
  rw [Value.flushed2, out_eq]
  obtain ⟨_, _, h0, h1⟩ := idx_facts t
  refine funext fun (j : S512x4096.Idx) => ?_
  obtain ⟨p, k, rfl⟩ : ∃ (p : Fin 512) (k : Fin 4096), j = ix2 p k := ⟨j 0, j 1, eq_ix2 j⟩
  refine (pay_apply _ _ p k).trans ?_
  rw [View.read_apply]
  have hj : (((cfg0.win 2).blk t).view.emb (ix2 p k) : S8192x4096.Idx)
      = ix2 ⟨t.val * 512 + p.val, by have := lt16 t; omega⟩ k := by
    funext a
    apply Fin.ext
    match a with
    | ⟨0, _⟩ => show win0_2.index t 0 * 512 + 1 * p.val = t.val * 512 + p.val; rw [h0]; omega
    | ⟨1, _⟩ => show win0_2.index t 1 * 4096 + 1 * k.val = k.val; rw [h1]; omega
  refine Eq.trans ?_ (congrArg (result m c) hj).symm
  exact congrArg₂ (fun r g => row r g k) (funext fun k => rows_block m c t p k) (funext fun k => gain_block m c t k)

theorem final_eq : (dats m 0 c).arrAt 2 cfg0.N = result m c :=
  (dats m 0 c).arrAt_eq_of_cover 2 (result m c) (fun t _ => flushed_eq m c t) fun i => by
    have i0 : (i 0 : Nat) < 8192 := (i 0).isLt
    have i1 : (i 1 : Nat) < 4096 := (i 1).isLt
    let t : Fin grid0.N := ⟨(i 0 : Nat) / 512, by rw [N_0]; omega⟩
    refine ⟨t, flush0_2 t, ?_⟩
    obtain ⟨_, _, h0, h1⟩ := idx_facts t
    have ht : t.val = (i 0 : Nat) / 512 := rfl
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [h0]; omega
    | ⟨1, _⟩ =>
      show win0_2.index t 1 * 4096 ≤ (i 1 : Nat) ∧ (i 1 : Nat) < win0_2.index t 1 * 4096 + 4096
      rw [h1]; omega

open Cert.NormRefIdeal.Read in
/-- The reference's array is the result array. -/
theorem value (x : S8192x4096.Idx → EReal) (g : S4096.Idx → EReal) :
    val_main_v13 (F := Ideal) x g = spec x g := by
  refine funext fun (j : S8192x4096.Idx) => ?_
  obtain ⟨p, k, rfl⟩ : ∃ (p : Fin 8192) (k : Fin 4096), j = ix2 p k := ⟨j 0, j 1, eq_ix2 j⟩
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

end Cert.NormIdeal.Array

end
-- ==== Proof.ResNormValue.lean ====
/-
  The residual sum with its norm and the next norm: every point of the grid takes 256 rows of the product and of the
  residual, the blocks cover both arrays, and the reference's arrays are the same.
-/
module

public import proofs.«01_k».proof.Proof.RowNorm
public import proofs.«01_k».proof.Proof.Gen.ResNormIdeal.Value
public import proofs.«01_k».proof.Proof.Gen.ResNormRefIdeal.Read
public import Idealize.ShloMosaic.Lib.Pointwise
public import Idealize.ShloMosaic.Lib.StableHlo.Run
public import Idealize.ShloMosaic.Lib.Claim
public import Idealize.ShloMosaic.Lib.Pipeline.Value
public import Idealize.ShloMosaic.Lib.Pipeline.ValueKit.Tiles

@[expose] public section

set_option maxRecDepth 16384
set_option maxHeartbeats 1000000

noncomputable section

namespace Cert.ResNormIdeal.Array

open Idealize.ShloMosaic Idealize.ShloMosaic.TcCoe Idealize.SL.Sem
open Idealize.ShloMosaic.Pipeline (Dat)
open Cert.ResNormIdeal Cert.ResNormIdeal.Gen
open Cert.RowNorm (row)

theorem zero2 : (![0, 0] : Fin 2 → ℕ) = fun _ => 0 := funext fun a => by fin_cases a <;> rfl

section
variable {F : FTy → Type} [FloatOps F]

/-- The blocks a point stores, from the blocks it reads. -/
theorem sum_out_eq (x0 x1 : Vec F S256x4096 .f32) (x2 x3 : Vec F S1x4096 .f32) : out0_4 x0 x1 x2 x3 = k0_pay1 x0 x1 x2 := by
  unfold out0_4
  rw [View.canon_unit_zero zero2]
  simp only [View.ld_unit_zero (S := S256x4096) zero2, View.ld_unit_zero (S := S1x4096) zero2]

theorem next_out_eq (x0 x1 : Vec F S256x4096 .f32) (x2 x3 : Vec F S1x4096 .f32) : out0_5 x0 x1 x2 x3 = k0_pay2 x0 x1 x2 x3 := by
  unfold out0_5
  rw [View.canon_unit_zero zero2]
  simp only [View.ld_unit_zero (S := S256x4096) zero2, View.ld_unit_zero (S := S1x4096) zero2]
end

/-- Entry `(p, k)` of the stored block of sums. -/
theorem sum_apply (x0 x1 : Vec Ideal S256x4096 .f32) (x2 : Vec Ideal S1x4096 .f32) (p : Fin 256) (k : Fin 4096) :
    k0_pay1 x0 x1 x2 (ix2 p k) = x1 (ix2 p k) + row (fun k => x0 (ix2 p k)) (fun k => x2 (ix2 0 k)) k := by
  pointwise [k0_pay1]
  rfl

/-- Entry `(p, k)` of the stored block of the next norm. -/
theorem next_apply (x0 x1 : Vec Ideal S256x4096 .f32) (x2 x3 : Vec Ideal S1x4096 .f32) (p : Fin 256) (k : Fin 4096) :
    k0_pay2 x0 x1 x2 x3 (ix2 p k) = row (fun k => k0_pay1 x0 x1 x2 (ix2 p k)) (fun k => x3 (ix2 0 k)) k := by
  unfold k0_pay2
  generalize k0_pay1 x0 x1 x2 = s
  pointwise []
  rfl

variable (m : (ℓ : Loc nD τ sig) → Buf (Elt Ideal) ℓ) (c : Dev nD)

/-- The two gains as rows. -/
theorem V_post : V m c main_v0 = shapeCast S1x4096 (m (c, main_arg2)) shapeCasts_S4096_S1x4096 := by
  unfold_abbrev_sides
  simp only [hostOps0, List.flatten_cons, List.flatten_nil, List.append_nil, List.cons_append, List.nil_append]
  after_results
  try rfl

theorem V_next : V m c main_v1 = shapeCast S1x4096 (m (c, main_arg3)) shapeCasts_S4096_S1x4096 := by
  unfold_abbrev_sides
  simp only [hostOps0, List.flatten_cons, List.flatten_nil, List.append_nil, List.cons_append, List.nil_append]
  after_results
  try rfl

/-- The block indices of the windows. -/
theorem idx_facts : ∀ t : Fin grid0.N,
    (win0_0.index t 0 = t.val ∧ win0_0.index t 1 = 0) ∧ (win0_1.index t 0 = t.val ∧ win0_1.index t 1 = 0) ∧
    (win0_2.index t 0 = 0 ∧ win0_2.index t 1 = 0) ∧ (win0_3.index t 0 = 0 ∧ win0_3.index t 1 = 0) ∧
    (win0_4.index t 0 = t.val ∧ win0_4.index t 1 = 0) ∧ (win0_5.index t 0 = t.val ∧ win0_5.index t 1 = 0) := by
  decide +kernel

theorem lt32 (t : Fin grid0.N) : t.val < 32 := lt_of_lt_of_eq t.isLt N_0

/-- Row `p` of the point's block as a row of the array. -/
abbrev at_ (t : Fin grid0.N) (p : Fin 256) : Fin 8192 := ⟨t.val * 256 + p.val, by have := lt32 t; omega⟩

theorem product_block (t : Fin grid0.N) (p : Fin 256) (k : Fin 4096) :
    (iblk m c 0 t : Vec Ideal S256x4096 .f32) (ix2 p k) = m (c, main_arg0) (ix2 (at_ t p) k) := by
  obtain ⟨⟨h0, h1⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 256 + 1 * p.val = t.val * 256 + p.val; rw [h0]; omega
  | ⟨1, _⟩ => show win0_0.index t 1 * 4096 + 1 * k.val = k.val; rw [h1]; omega

theorem residual_block (t : Fin grid0.N) (p : Fin 256) (k : Fin 4096) :
    (iblk m c 1 t : Vec Ideal S256x4096 .f32) (ix2 p k) = m (c, main_arg1) (ix2 (at_ t p) k) := by
  obtain ⟨_, ⟨h0, h1⟩, _⟩ := idx_facts t
  unfold iblk
  rw [View.read_apply]
  show V m c main_arg1 _ = _
  rw [V_main_arg1]
  show m (c, main_arg1) _ = _
  congr 1
  funext a
  apply Fin.ext
  match a with
  | ⟨0, _⟩ => show win0_1.index t 0 * 256 + 1 * p.val = t.val * 256 + p.val; rw [h0]; omega
  | ⟨1, _⟩ => show win0_1.index t 1 * 4096 + 1 * k.val = k.val; rw [h1]; omega

theorem cast_row (g : S4096.Idx → EReal) (k : Fin 4096) :
    (shapeCast S1x4096 (g : Vec Ideal S4096 .f32) shapeCasts_S4096_S1x4096) (ix2 0 k) = g (ix1 k) := by pointwise []

theorem post_block (t : Fin grid0.N) (k : Fin 4096) :
    (iblk m c 2 t : Vec Ideal S1x4096 .f32) (ix2 0 k) = m (c, main_arg2) (ix1 k) := by
  obtain ⟨_, _, ⟨h0, h1⟩, _⟩ := idx_facts t
  unfold iblk
  rw [View.read_apply]
  show V m c main_v0 _ = _
  rw [V_post]
  refine Eq.trans ?_ (cast_row _ k)
  congr 1
  funext a
  apply Fin.ext
  match a with
  | ⟨0, _⟩ => show win0_2.index t 0 * 1 + 1 * 0 = 0; rw [h0]
  | ⟨1, _⟩ => show win0_2.index t 1 * 4096 + 1 * k.val = k.val; rw [h1]; omega

theorem next_block (t : Fin grid0.N) (k : Fin 4096) :
    (iblk m c 3 t : Vec Ideal S1x4096 .f32) (ix2 0 k) = m (c, main_arg3) (ix1 k) := by
  obtain ⟨_, _, _, ⟨h0, h1⟩, _⟩ := idx_facts t
  unfold iblk
  rw [View.read_apply]
  show V m c main_v1 _ = _
  rw [V_next]
  refine Eq.trans ?_ (cast_row _ k)
  congr 1
  funext a
  apply Fin.ext
  match a with
  | ⟨0, _⟩ => show win0_3.index t 0 * 1 + 1 * 0 = 0; rw [h0]
  | ⟨1, _⟩ => show win0_3.index t 1 * 4096 + 1 * k.val = k.val; rw [h1]; omega

/-- The array of sums. -/
def sum (y x : S8192x4096.Idx → EReal) (g : S4096.Idx → EReal) : S8192x4096.Idx → EReal := fun i =>
  x (ix2 (n0 := 8192) (n1 := 4096) (i 0) (i 1)) + row (fun k => y (ix2 (n0 := 8192) (i 0) k)) (fun k => g (ix1 k)) (i 1)

/-- The array of the next norm. -/
def next (y x : S8192x4096.Idx → EReal) (g g' : S4096.Idx → EReal) : S8192x4096.Idx → EReal := fun i =>
  row (fun k => sum y x g (ix2 (n0 := 8192) (i 0) k)) (fun k => g' (ix1 k)) (i 1)

abbrev sums : S8192x4096.Idx → EReal := sum (m (c, main_arg0)) (m (c, main_arg1)) (m (c, main_arg2))

abbrev nexts : S8192x4096.Idx → EReal := next (m (c, main_arg0)) (m (c, main_arg1)) (m (c, main_arg2)) (m (c, main_arg3))

/-- The sums of a point's blocks are the array's. -/
theorem point_sum (t : Fin grid0.N) (p : Fin 256) (k : Fin 4096) :
    k0_pay1 (F := Ideal) (iblk m c 0 t) (iblk m c 1 t) (iblk m c 2 t) (ix2 p k) = sums m c (ix2 (at_ t p) k) :=
  (sum_apply _ _ _ p k).trans (congrArg₂ (· + ·) (residual_block m c t p k)
    (congrArg₂ (fun r g => row r g k) (funext fun k => product_block m c t p k) (funext fun k => post_block m c t k)))

theorem flushed_sum (t : Fin cfg0.N) :
    (dats m 0 c).flushed 4 t = ((cfg0.win 4).blk t).view.read (Elt Ideal) (sums m c) := by
  rw [Value.flushed4, sum_out_eq]
  obtain ⟨_, _, _, _, ⟨h0, h1⟩, _⟩ := idx_facts t
  refine funext fun (j : S256x4096.Idx) => ?_
  obtain ⟨p, k, rfl⟩ : ∃ (p : Fin 256) (k : Fin 4096), j = ix2 p k := ⟨j 0, j 1, eq_ix2 j⟩
  refine (point_sum m c t p k).trans ?_
  rw [View.read_apply]
  refine congrArg (sums m c) (Eq.symm ?_)
  funext a
  apply Fin.ext
  match a with
  | ⟨0, _⟩ => show win0_4.index t 0 * 256 + 1 * p.val = t.val * 256 + p.val; rw [h0]; omega
  | ⟨1, _⟩ => show win0_4.index t 1 * 4096 + 1 * k.val = k.val; rw [h1]; omega

theorem flushed_next (t : Fin cfg0.N) :
    (dats m 0 c).flushed 5 t = ((cfg0.win 5).blk t).view.read (Elt Ideal) (nexts m c) := by
  rw [Value.flushed5, next_out_eq]
  obtain ⟨_, _, _, _, _, h0, h1⟩ := idx_facts t
  refine funext fun (j : S256x4096.Idx) => ?_
  obtain ⟨p, k, rfl⟩ : ∃ (p : Fin 256) (k : Fin 4096), j = ix2 p k := ⟨j 0, j 1, eq_ix2 j⟩
  refine (next_apply _ _ _ _ p k).trans ((congrArg₂ (fun r g => row r g k) (funext fun k => point_sum m c t p k)
    (funext fun k => next_block m c t k)).trans ?_)
  rw [View.read_apply]
  refine Eq.trans (b := nexts m c (ix2 (at_ t p) k)) rfl (congrArg (nexts m c) (Eq.symm ?_))
  funext a
  apply Fin.ext
  match a with
  | ⟨0, _⟩ => show win0_5.index t 0 * 256 + 1 * p.val = t.val * 256 + p.val; rw [h0]; omega
  | ⟨1, _⟩ => show win0_5.index t 1 * 4096 + 1 * k.val = k.val; rw [h1]; omega

theorem final_sum : (dats m 0 c).arrAt 4 cfg0.N = sums m c :=
  (dats m 0 c).arrAt_eq_of_cover 4 (sums m c) (fun t _ => flushed_sum m c t) fun i => by
    have i0 : (i 0 : Nat) < 8192 := (i 0).isLt
    have i1 : (i 1 : Nat) < 4096 := (i 1).isLt
    let t : Fin grid0.N := ⟨(i 0 : Nat) / 256, by rw [N_0]; omega⟩
    refine ⟨t, flush0_4 t, ?_⟩
    obtain ⟨_, _, _, _, ⟨h0, h1⟩, _⟩ := idx_facts t
    have ht : t.val = (i 0 : Nat) / 256 := rfl
    show i ∈ ((View.whole main_v2_0).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [h0]; omega
    | ⟨1, _⟩ =>
      show win0_4.index t 1 * 4096 ≤ (i 1 : Nat) ∧ (i 1 : Nat) < win0_4.index t 1 * 4096 + 4096
      rw [h1]; omega

theorem final_next : (dats m 0 c).arrAt 5 cfg0.N = nexts m c :=
  (dats m 0 c).arrAt_eq_of_cover 5 (nexts m c) (fun t _ => flushed_next m c t) fun i => by
    have i0 : (i 0 : Nat) < 8192 := (i 0).isLt
    have i1 : (i 1 : Nat) < 4096 := (i 1).isLt
    let t : Fin grid0.N := ⟨(i 0 : Nat) / 256, by rw [N_0]; omega⟩
    refine ⟨t, flush0_5 t, ?_⟩
    obtain ⟨_, _, _, _, _, h0, h1⟩ := idx_facts t
    have ht : t.val = (i 0 : Nat) / 256 := rfl
    show i ∈ ((View.whole main_v2_1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [h0]; omega
    | ⟨1, _⟩ =>
      show win0_5.index t 1 * 4096 ≤ (i 1 : Nat) ∧ (i 1 : Nat) < win0_5.index t 1 * 4096 + 4096
      rw [h1]; omega

open Cert.ResNormRefIdeal.Read

/-- The reference's sums. -/
theorem value_sum (y x : S8192x4096.Idx → EReal) (g : S4096.Idx → EReal) :
    val_main_v13 (F := Ideal) y x g = sum y x g := by
  refine funext fun (j : S8192x4096.Idx) => ?_
  obtain ⟨p, k, rfl⟩ : ∃ (p : Fin 8192) (k : Fin 4096), j = ix2 p k := ⟨j 0, j 1, eq_ix2 j⟩
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's next norm. -/
theorem value_next (y x : S8192x4096.Idx → EReal) (g g' : S4096.Idx → EReal) :
    val_main_v27 (F := Ideal) y x g g' = next y x g g' := by
  refine funext fun (j : S8192x4096.Idx) => ?_
  obtain ⟨p, k, rfl⟩ : ∃ (p : Fin 8192) (k : Fin 4096), j = ix2 p k := ⟨j 0, j 1, eq_ix2 j⟩
  unfold val_main_v27 val_main_v26 val_main_v23 val_main_v22 val_main_v21 val_main_v20 val_main_v18 val_main_v16 val_main_v15 val_main_v14
  unfold next
  rw [value_sum]
  generalize sum y x g = s
  pointwise [val_main_v25, val_main_v24, val_main_v19, val_main_v17, val_main_cst_2, val_main_cst_3, val_main_cst_4]
  rfl

end Cert.ResNormIdeal.Array

end
-- ==== Proof.Bucket.lean ====
/-
  The relative-position bucket as a function of one distance word, and the rows of the bias table read by it: the
  kernel's stack of tiles and the plain bias matrix are the same function of the distance.
-/
module

public import proofs.«01_k».proof.KernelIdeal
public import proofs.«01_k».proof.ReferenceIdeal
public import Idealize.ShloMosaic.Lib.Pointwise
public import Idealize.ShloMosaic.Lib.ValueIdxCore

@[expose] public section

set_option maxRecDepth 16384

noncomputable section

namespace Cert.Attn

open Idealize.ShloMosaic

abbrev scal : Shape := ⟨0, ![]⟩

/-- The bucket of each distance of an array of words. -/
def bucketVec (s : Shape) (h : scal.BroadcastsInDim s (![] : Fin 0 → Fin s.rank)) (r : IVec s 32) : IVec s 32 :=
  let b (c : BitVec 32) : IVec s 32 := broadcastInDim s ![] h (constantI scal 32 c)
  let f (c : BitVec 32) : FVec Ideal s .f32 := broadcastInDim s ![] h (constant scal .f32 c)
  let n : IVec s 32 := absi r
  let l : IVec s 32 := fptosi 32 (mulf (Host.divf (Host.log (Host.divf (sitofp .f32 (maxsi n (b 1#32))) (f 0x41000000#32))) (f 0x409B43D5#32)) (f 0x41000000#32))
  let u : IVec s 32 := addi (id (select (cmpi .sgt r (b 0#32)) (b 16#32) (b 0#32)))
    (select (cmpi .slt n (b 8#32)) n (minsi (addi (b 8#32) l) (b 15#32)))
  select (cmpi .slt u (b 0#32)) (addi u (b 32#32)) u

theorem scal_bcast : scal.BroadcastsInDim scal (![] : Fin 0 → Fin scal.rank) := by decide

/-- The bucket of one distance. -/
def bucketWord (w : BitVec 32) : BitVec 32 := bucketVec scal scal_bcast (fun _ => w) (fun a => a.elim0)

theorem bucketVec_apply (s : Shape) (h : scal.BroadcastsInDim s (![] : Fin 0 → Fin s.rank)) (r : IVec s 32) (i : s.Idx) :
    bucketVec s h r i = bucketWord (r i) := rfl

/-- The table's entry at head `h` and at the row a word names. -/
def row (x1 : (⟨2, ![32, 16]⟩ : Shape).Idx → EReal) (w : BitVec 32) (h : Fin 16) : EReal :=
  x1 (ix2 ⟨min w.toInt.toNat 31, by omega⟩ h)

/-- The bias of a distance at head `h`: the table's row of that bucket. -/
def entry (x1 : (⟨2, ![32, 16]⟩ : Shape).Idx → EReal) (w : BitVec 32) (h : Fin 16) : EReal := row x1 (bucketWord w) h

section
open Cert.KernelIdeal
variable [Cert.KernelIdeal.Facts]

/-- The stack of tiles before its transpose: entry `(t, a, b, h)` is row `idx[t, a, b]` of the table at head `h`. -/
theorem gather_tiles (x : S32x16.Idx → EReal) (idx : IVec S63x128x128x1 32) (t : Fin 63) (a b : Fin 128) (h : Fin 16) :
    Host.gather gather_S32x16_S63x128x128x1_S63x128x128x16_3_0_n_n_0_3_116 x idx (ix4 t a b h)
      = row x (idx (ix4 t a b 0)) h := by
  unfold row
  unfold Host.gather
  congr 1
  funext e
  refine Fin.ext ?_
  show GatherDims.start _ _ idx e + GatherDims.batchCoord _ _ e + GatherDims.offCoord _ _ e = _
  have h01 : e = 0 ∨ e = 1 := by
    match e with
    | ⟨0, _⟩ => exact Or.inl rfl
    | ⟨1, _⟩ => exact Or.inr rfl
  rcases h01 with rfl | rfl
  · rw [GatherDims.batchCoord_eq_zero _ _ _ (by show (0 : Fin 2) ∉ ([] : List (Fin 2)); decide),
      GatherDims.offCoord_eq_zero _ _ _ (fun h => ((GatherDims.mem_sKept _ _).mp h).1 (by show (0 : Fin 2) ∈ [(0 : Fin 2)]; decide))]
    simp only [Nat.add_zero]
    unfold GatherDims.start
    rw [dif_pos (by show (0 : Fin 2) ∈ [(0 : Fin 2)]; decide)]
    have hsi : GatherDims.siIdx gather_S32x16_S63x128x128x1_S63x128x128x16_3_0_n_n_0_3_116 (ix4 t a b h)
        ⟨0, by show 0 < [(0 : Fin 2)].length; decide⟩ = ix4 t a b 0 := by
      funext c; refine Fin.ext ?_
      match c with
      | ⟨0, _⟩ => rfl
      | ⟨1, _⟩ => rfl
      | ⟨2, _⟩ => rfl
      | ⟨3, _⟩ => rfl
    exact congrArg (fun z => min (idx z).toInt.toNat 31) hsi
  · rw [GatherDims.batchCoord_eq_zero _ _ _ (by show (1 : Fin 2) ∉ ([] : List (Fin 2)); decide)]
    unfold GatherDims.start GatherDims.offCoord
    rw [dif_neg (by show (1 : Fin 2) ∉ [(0 : Fin 2)]; decide),
      dif_pos ((GatherDims.mem_sKept _ _).mpr ⟨by show (1 : Fin 2) ∉ [(0 : Fin 2)]; decide, by show (1 : Fin 2) ∉ ([] : List (Fin 2)); decide⟩)]
    show 0 + 0 + h.val = h.val
    omega

end

section
open Cert.ReferenceIdeal
variable [Cert.ReferenceIdeal.Facts]

/-- The plain bias before its transpose: entry `(q, k, h)` is row `idx[q, k]` of the table at head `h`. -/
theorem gather_plain (x : S32x16.Idx → EReal) (idx : IVec S4096x4096x1 32) (q k : Fin 4096) (h : Fin 16) :
    Host.gather gather_S32x16_S4096x4096x1_S4096x4096x16_2_0_n_n_0_2_116 x idx (ix3 q k h)
      = row x (idx (ix3 q k 0)) h := by
  unfold row
  unfold Host.gather
  congr 1
  funext e
  refine Fin.ext ?_
  show GatherDims.start _ _ idx e + GatherDims.batchCoord _ _ e + GatherDims.offCoord _ _ e = _
  have h01 : e = 0 ∨ e = 1 := by
    match e with
    | ⟨0, _⟩ => exact Or.inl rfl
    | ⟨1, _⟩ => exact Or.inr rfl
  rcases h01 with rfl | rfl
  · rw [GatherDims.batchCoord_eq_zero _ _ _ (by show (0 : Fin 2) ∉ ([] : List (Fin 2)); decide),
      GatherDims.offCoord_eq_zero _ _ _ (fun h => ((GatherDims.mem_sKept _ _).mp h).1 (by show (0 : Fin 2) ∈ [(0 : Fin 2)]; decide))]
    simp only [Nat.add_zero]
    unfold GatherDims.start
    rw [dif_pos (by show (0 : Fin 2) ∈ [(0 : Fin 2)]; decide)]
    have hsi : GatherDims.siIdx gather_S32x16_S4096x4096x1_S4096x4096x16_2_0_n_n_0_2_116 (ix3 q k h)
        ⟨0, by show 0 < [(0 : Fin 2)].length; decide⟩ = ix3 q k 0 := by
      funext c; refine Fin.ext ?_
      match c with
      | ⟨0, _⟩ => rfl
      | ⟨1, _⟩ => rfl
      | ⟨2, _⟩ => rfl
    exact congrArg (fun z => min (idx z).toInt.toNat 31) hsi
  · rw [GatherDims.batchCoord_eq_zero _ _ _ (by show (1 : Fin 2) ∉ ([] : List (Fin 2)); decide)]
    unfold GatherDims.start GatherDims.offCoord
    rw [dif_neg (by show (1 : Fin 2) ∉ [(0 : Fin 2)]; decide),
      dif_pos ((GatherDims.mem_sKept _ _).mpr ⟨by show (1 : Fin 2) ∉ [(0 : Fin 2)]; decide, by show (1 : Fin 2) ∉ ([] : List (Fin 2)); decide⟩)]
    show 0 + 0 + h.val = h.val
    omega

end

end Cert.Attn

end
-- ==== Proof.Host.lean ====
/-
  What the arrays hold when the attention kernel starts: the packed projections as they came, the four lambda
  vectors and the gain as rows, and the stack of 63 bias tiles, entry `(h, t, a, b)` of which is the bias of the
  distance `(t − 31)·128 + b − a` at head `h`.
-/
module

public import proofs.«01_k».proof.Proof.Gen.KernelIdeal.Value
public import proofs.«01_k».proof.Proof.Bucket
public import Idealize.ShloMosaic.Lib.StableHlo.Run
public import Idealize.ShloMosaic.Lib.Claim

@[expose] public section

set_option maxRecDepth 65536
set_option maxHeartbeats 4000000

noncomputable section

namespace Cert.KernelIdeal.Host

open Idealize.ShloMosaic Idealize.ShloMosaic.TcCoe Idealize.SL.Sem
open Cert.KernelIdeal Cert.KernelIdeal.Gen Cert.Attn

variable (m : (ℓ : Loc nD τ sig) → Buf (Elt Ideal) ℓ) (c : Dev nD)

/-- The distance of each entry of each tile. -/
def rel : IVec S63x128x128 32 :=
  subi (broadcastInDim S63x128x128 ![0, 1, 2] bcast_S63x1x128_S63x128x128_0_1_2
      (addi (broadcastInDim S63x1x128 ![0, 1, 2] bcast_S63x1x1_S63x1x128_0_1_2
          (muli (broadcastInDim S63x1x1 ![0] bcast_S63_S63x1x1_0
              (addi (broadcastInDim S63 ![] bcast_S_S63 (constantI S_ 32 4294967265#32)) (iotaInDim S63 32 0)))
            (broadcastInDim S63x1x1 ![] bcast_S_S63x1x1 (constantI S_ 32 128#32))))
        (broadcastInDim S63x1x128 ![0, 1, 2] bcast_S1x1x128_S63x1x128_0_1_2
          (broadcastInDim S1x1x128 ![2] bcast_S128_S1x1x128_2 (iotaInDim S128 32 0)))))
    (broadcastInDim S63x128x128 ![0, 1, 2] bcast_S1x128x1_S63x128x128_0_1_2
      (broadcastInDim S1x128x1 ![1] bcast_S128_S1x128x1_1 (iotaInDim S128 32 0)))

/-- The stack of tiles. -/
def tiles (x1 : FVec Ideal S32x16 .f32) : FVec Ideal S16x63x128x128 .f32 :=
  transpose S16x63x128x128 [3, 0, 1, 2] (Host.gather gather_S32x16_S63x128x128x1_S63x128x128x16_3_0_n_n_0_3_116 x1
    (broadcastInDim S63x128x128x1 ![0, 1, 2] bcast_S63x128x128_S63x128x128x1_0_1_2
      (bucketVec S63x128x128 bcast_S_S63x128x128 rel))) transposes_S63x128x128x16_S16x63x128x128_3_0_1_2

theorem V_tiles : V m c main_v47 = tiles (m (c, main_arg1)) := by
  unfold_abbrev_sides
  simp only [hostOps0, hostOps0_1, hostOps0_2, hostOps0_3, hostOps0_4, List.flatten_cons, List.flatten_nil, List.append_nil, List.cons_append,
    List.nil_append]
  after_results
  rfl

theorem V_lq1 : V m c main_v48 = shapeCast S1x64 (m (c, main_arg2)) shapeCasts_S64_S1x64 := by
  unfold_abbrev_sides
  simp only [hostOps0, hostOps0_1, hostOps0_2, hostOps0_3, hostOps0_4, List.flatten_cons, List.flatten_nil, List.append_nil, List.cons_append,
    List.nil_append]
  after_results
  rfl

theorem V_lk1 : V m c main_v49 = shapeCast S1x64 (m (c, main_arg3)) shapeCasts_S64_S1x64 := by
  unfold_abbrev_sides
  simp only [hostOps0, hostOps0_1, hostOps0_2, hostOps0_3, hostOps0_4, List.flatten_cons, List.flatten_nil, List.append_nil, List.cons_append,
    List.nil_append]
  after_results
  rfl

theorem V_lq2 : V m c main_v50 = shapeCast S1x64 (m (c, main_arg4)) shapeCasts_S64_S1x64 := by
  unfold_abbrev_sides
  simp only [hostOps0, hostOps0_1, hostOps0_2, hostOps0_3, hostOps0_4, List.flatten_cons, List.flatten_nil, List.append_nil, List.cons_append,
    List.nil_append]
  after_results
  rfl

theorem V_lk2 : V m c main_v51 = shapeCast S1x64 (m (c, main_arg5)) shapeCasts_S64_S1x64 := by
  unfold_abbrev_sides
  simp only [hostOps0, hostOps0_1, hostOps0_2, hostOps0_3, hostOps0_4, List.flatten_cons, List.flatten_nil, List.append_nil, List.cons_append,
    List.nil_append]
  after_results
  rfl

theorem V_gain : V m c main_v52 = shapeCast S1x128 (m (c, main_arg6)) shapeCasts_S128_S1x128 := by
  unfold_abbrev_sides
  simp only [hostOps0, hostOps0_1, hostOps0_2, hostOps0_3, hostOps0_4, List.flatten_cons, List.flatten_nil, List.append_nil, List.cons_append,
    List.nil_append]
  after_results
  rfl

end Cert.KernelIdeal.Host

end
-- ==== Proof.Tiles.lean ====
/-
  The stack of bias tiles at an index.
-/
module

public import proofs.«01_k».proof.Proof.Host

@[expose] public section

set_option maxRecDepth 16384
set_option maxHeartbeats 400000

noncomputable section

namespace Cert.KernelIdeal.Host

open Idealize.ShloMosaic Idealize.ShloMosaic.TcCoe
open Cert.KernelIdeal Cert.KernelIdeal.Gen Cert.Attn

/-- The distance at one entry of one tile, as a word. -/
theorem rel_apply (t : Fin 63) (a b : Fin 128) : rel (ix3 t a b) =
    ((4294967265#32 + BitVec.ofNat 32 t.val) * 128#32 + BitVec.ofNat 32 b.val) - BitVec.ofNat 32 a.val := by
  pointwise [rel]
  simp only [IntOp.subi, IntOp.addi, IntOp.muli]

theorem tiles_apply (x1 : FVec Ideal S32x16 .f32) (h : Fin 16) (t : Fin 63) (a b : Fin 128) :
    tiles x1 (ix4 h t a b) = entry x1 (((4294967265#32 + BitVec.ofNat 32 t.val) * 128#32 + BitVec.ofNat 32 b.val) - BitVec.ofNat 32 a.val) h := by
  have e : tiles x1 (ix4 h t a b) = Host.gather gather_S32x16_S63x128x128x1_S63x128x128x16_3_0_n_n_0_3_116 x1
    (broadcastInDim S63x128x128x1 ![0, 1, 2] bcast_S63x128x128_S63x128x128x1_0_1_2
      (bucketVec S63x128x128 bcast_S_S63x128x128 rel)) (ix4 t a b h) := by
    unfold tiles transpose
    congr 1
    funext e; refine Fin.ext ?_
    match e with
    | ⟨0, _⟩ => rfl
    | ⟨1, _⟩ => rfl
    | ⟨2, _⟩ => rfl
    | ⟨3, _⟩ => rfl
  have e' : broadcastInDim S63x128x128x1 ![0, 1, 2] bcast_S63x128x128_S63x128x128x1_0_1_2
      (bucketVec S63x128x128 bcast_S_S63x128x128 rel) (ix4 t a b 0) = bucketWord (rel (ix3 t a b)) := by
    rw [← bucketVec_apply S63x128x128 bcast_S_S63x128x128 rel (ix3 t a b)]
    unfold broadcastInDim
    congr 1
    funext e; refine Fin.ext ?_
    match e with
    | ⟨0, _⟩ => rfl
    | ⟨1, _⟩ => rfl
    | ⟨2, _⟩ => rfl
  rw [e, gather_tiles, e', rel_apply]
  unfold entry
  with_reducible rfl

end Cert.KernelIdeal.Host

end
-- ==== Proof.Math.lean ====
/-
  The arithmetic of the differential attention over the extended reals: a row's weights are the exponentials of its
  scores less their maximum, and on real scores and values the difference of two normalised weighted sums is the
  weighted sum of the difference of the normalised weights.
-/
module

public import Idealize.ShloMosaic.Lib.Pointwise

@[expose] public section

noncomputable section

namespace Cert.Attn

open Idealize.ShloMosaic

/-- The value is a real number. -/
def IsReal (x : EReal) : Prop := ∃ r : ℝ, x = (r : EReal)

theorem IsReal.of_ne {x : EReal} (hb : x ≠ ⊥) (ht : x ≠ ⊤) : IsReal x := ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.exp {x : EReal} (hx : IsReal x) : IsReal (Ideal.exp x) := by
  obtain ⟨a, rfl⟩ := hx; exact ⟨Real.exp a, rfl⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ k, IsReal (f k)) : IsReal (∑ k ∈ s, f k) := by
  choose g hg using h
  exact ⟨∑ k ∈ s, g k, by rw [coe_sum]; exact Finset.sum_congr rfl fun k _ => hg k⟩

theorem div_coe (a b : ℝ) (hb : b ≠ 0) : Ideal.div (a : EReal) (b : EReal) = ((a / b : ℝ) : EReal) := by
  have : ((b : ℝ) : EReal) ≠ 0 := by exact_mod_cast hb
  rw [Ideal.div, if_neg this, div_eq_mul_inv, EReal.coe_mul, EReal.coe_inv]

/-- The greatest score of a row. -/
def peak (s : Fin 4096 → EReal) : EReal := Finset.fold max (⊥ : EReal) s Finset.univ

/-- The weight of a key: the exponential of its score less the greatest one. -/
def wt (s : Fin 4096 → EReal) (k : Fin 4096) : EReal := Ideal.exp (s k - peak s)

/-- The sum of a row's weights. -/
def tot (s : Fin 4096 → EReal) : EReal := ∑ k, wt s k

/-- Normalise after summing: two weighted sums, each over its total, the second times `lam` taken away. -/
def outAfter (s t : Fin 4096 → EReal) (lam : EReal) (v : Fin 4096 → EReal) : EReal :=
  Ideal.div (∑ k, wt s k * v k) (tot s) - lam * Ideal.div (∑ k, wt t k * v k) (tot t)

/-- Normalise before summing: one weighted sum, by the difference of the normalised weights. -/
def outBefore (s t : Fin 4096 → EReal) (lam : EReal) (v : Fin 4096 → EReal) : EReal :=
  ∑ k, (Ideal.div (wt s k) (tot s) - lam * Ideal.div (wt t k) (tot t)) * v k

theorem peak_real {s : Fin 4096 → EReal} (hs : ∀ k, IsReal (s k)) : IsReal (peak s) := by
  refine IsReal.of_ne ?_ ?_
  · refine ne_of_gt ?_
    rw [peak, Finset.lt_fold_max]
    obtain ⟨r, hr⟩ := hs 0
    exact Or.inr ⟨0, Finset.mem_univ _, by rw [hr]; exact EReal.bot_lt_coe r⟩
  · refine ne_of_lt ?_
    rw [peak, Finset.fold_max_lt]
    refine ⟨bot_lt_top, fun k _ => ?_⟩
    obtain ⟨r, hr⟩ := hs k
    rw [hr]; exact EReal.coe_lt_top r

/-- On real scores the weights are positive reals. -/
theorem wt_real {s : Fin 4096 → EReal} (hs : ∀ k, IsReal (s k)) :
    ∃ p : Fin 4096 → ℝ, (∀ k, 0 < p k) ∧ ∀ k, wt s k = (p k : EReal) := by
  obtain ⟨M, hM⟩ := peak_real hs
  choose r hr using hs
  refine ⟨fun k => Real.exp (r k - M), fun k => Real.exp_pos _, fun k => ?_⟩
  rw [wt, hM, hr k, ← EReal.coe_sub]; rfl

/-- The two orders of normalisation agree on real scores, values and factor. -/
theorem outAfter_eq {s t : Fin 4096 → EReal} {lam : EReal} {v : Fin 4096 → EReal} (hs : ∀ k, IsReal (s k))
    (ht : ∀ k, IsReal (t k)) (hl : IsReal lam) (hv : ∀ k, IsReal (v k)) :
    outAfter s t lam v = outBefore s t lam v := by
  obtain ⟨p, hp, hps⟩ := wt_real hs
  obtain ⟨q, hq, hqt⟩ := wt_real ht
  obtain ⟨l, rfl⟩ := hl
  choose w hw using hv
  have hP : (∑ k, p k) ≠ 0 := (Finset.sum_pos (fun k _ => hp k) Finset.univ_nonempty).ne'
  have hQ : (∑ k, q k) ≠ 0 := (Finset.sum_pos (fun k _ => hq k) Finset.univ_nonempty).ne'
  have tP : tot s = ((∑ k, p k : ℝ) : EReal) := by rw [tot, coe_sum]; exact Finset.sum_congr rfl fun k _ => hps k
  have tQ : tot t = ((∑ k, q k : ℝ) : EReal) := by rw [tot, coe_sum]; exact Finset.sum_congr rfl fun k _ => hqt k
  have nP : (∑ k, wt s k * v k) = ((∑ k, p k * w k : ℝ) : EReal) := by
    rw [coe_sum]; exact Finset.sum_congr rfl fun k _ => by rw [hps, hw, EReal.coe_mul]
  have nQ : (∑ k, wt t k * v k) = ((∑ k, q k * w k : ℝ) : EReal) := by
    rw [coe_sum]; exact Finset.sum_congr rfl fun k _ => by rw [hqt, hw, EReal.coe_mul]
  have R : outBefore s t (l : EReal) v =
      ((∑ k, (p k / (∑ k, p k) - l * (q k / ∑ k, q k)) * w k : ℝ) : EReal) := by
    rw [outBefore, coe_sum]
    refine Finset.sum_congr rfl fun k _ => ?_
    rw [hps, hqt, hw, tP, tQ, div_coe _ _ hP, div_coe _ _ hQ, ← EReal.coe_mul, ← EReal.coe_sub, ← EReal.coe_mul]
  rw [R, outAfter, nP, nQ, tP, tQ, div_coe _ _ hP, div_coe _ _ hQ, ← EReal.coe_mul, ← EReal.coe_sub]
  congr 1
  rw [Finset.sum_div, Finset.sum_div, Finset.mul_sum, ← Finset.sum_sub_distrib]
  exact Finset.sum_congr rfl fun k _ => by ring

/-- A row of 128 normalised by the root of its mean square, times its gain and the constant factor. -/
def norm (o : Fin 128 → EReal) (g : EReal) (d : Fin 128) : EReal :=
  o d * Ideal.rsqrt (Ideal.div (∑ x, o x * o x) (Ideal.ofBits FTy.f32 0x43000000#32) + Ideal.ofBits FTy.f32 0x3727C5AC#32)
    * g * Ideal.ofBits FTy.f32 0x3F4CCCCD#32

/-- The factor of the second attention. -/
def lamOf (a b c d : Fin 64 → EReal) : EReal :=
  Ideal.exp (∑ x, a x * b x) - Ideal.exp (∑ x, c x * d x) + Ideal.ofBits FTy.f32 0x3E4CCCCD#32

/-- A sum over 128 lanes of which the last 64 are put to zero. -/
theorem sum_lower (q k : Fin 128 → EReal) :
    (∑ x : Fin 128, (if x.val < 64 then q x else 0) * k x) =
      ∑ e : Fin 64, q ⟨0 * 64 + e.val, by omega⟩ * k ⟨0 * 64 + e.val, by omega⟩ := by
  refine (Fin.sum_univ_add (a := 64) (b := 64) fun x : Fin 128 => (if x.val < 64 then q x else 0) * k x).trans ?_
  rw [Finset.sum_eq_zero (s := Finset.univ) (f := fun x : Fin 64 => (if (Fin.natAdd 64 x : Fin 128).val < 64 then q (Fin.natAdd 64 x) else 0) * k (Fin.natAdd 64 x)), add_zero]
  · refine Finset.sum_congr rfl fun e _ => ?_
    have h : (Fin.castAdd 64 e : Fin 128) = ⟨0 * 64 + e.val, by omega⟩ := Fin.ext (by simp)
    rw [h, if_pos (by show 0 * 64 + e.val < 64; omega)]
  · intro e _
    rw [if_neg (by simp), zero_mul]

/-- A sum over 128 lanes of which the first 64 are put to zero. -/
theorem sum_upper (q k : Fin 128 → EReal) :
    (∑ x : Fin 128, (if 64 ≤ x.val then q x else 0) * k x) =
      ∑ e : Fin 64, q ⟨1 * 64 + e.val, by omega⟩ * k ⟨1 * 64 + e.val, by omega⟩ := by
  refine (Fin.sum_univ_add (a := 64) (b := 64) fun x : Fin 128 => (if 64 ≤ x.val then q x else 0) * k x).trans ?_
  rw [Finset.sum_eq_zero (s := Finset.univ) (f := fun x : Fin 64 => (if 64 ≤ (Fin.castAdd 64 x : Fin 128).val then q (Fin.castAdd 64 x) else 0) * k (Fin.castAdd 64 x)), zero_add]
  · refine Finset.sum_congr rfl fun e _ => ?_
    have h : (Fin.natAdd 64 e : Fin 128) = ⟨1 * 64 + e.val, by omega⟩ := Fin.ext (by simp [Nat.add_comm])
    rw [h, if_pos (by show 64 ≤ 1 * 64 + e.val; omega)]
  · intro e _
    rw [if_neg (by simp), zero_mul]

end Cert.Attn

end
-- ==== Proof.Spec.lean ====
/-
  The attention with a difference of two softmaxes as plain mathematics of the arguments: query head `h` at row `q`
  of sequence `b`, its two scores against key `k`, and the two forms of the normalised result.
-/
module

public import proofs.«01_k».proof.Proof.Bucket
public import proofs.«01_k».proof.Proof.Math

@[expose] public section

noncomputable section

namespace Cert.Attn

open Idealize.ShloMosaic

variable (x0 : (⟨3, ![2, 4096, 12288]⟩ : Shape).Idx → EReal) (x1 : (⟨2, ![32, 16]⟩ : Shape).Idx → EReal)
  (x2 x3 x4 x5 : (⟨1, ![64]⟩ : Shape).Idx → EReal) (x6 : (⟨1, ![128]⟩ : Shape).Idx → EReal)

/-- The score of key `k` for query `q`, in half `p` of head `h`. -/
def score (b : Fin 2) (h : Fin 16) (p : Fin 2) (q k : Fin 4096) : EReal :=
  (∑ e : Fin 64, x0 (ix3 b q ⟨6144 + (h.val * 128 + (p.val * 64 + e.val)), by omega⟩)
      * x0 (ix3 b k ⟨8192 + (h.val * 128 + (p.val * 64 + e.val)), by omega⟩))
    + entry x1 (BitVec.ofNat 32 k.val - BitVec.ofNat 32 q.val) h

/-- The value lane `d` of key `k` in head `h`. -/
def val (b : Fin 2) (h : Fin 16) (d : Fin 128) (k : Fin 4096) : EReal :=
  x0 (ix3 b k ⟨10240 + (h.val * 128 + d.val), by omega⟩)

/-- The factor of the second softmax, from the four vectors. -/
def lam : EReal :=
  lamOf (fun e => x2 (ix1 e)) (fun e => x3 (ix1 e)) (fun e => x4 (ix1 e)) (fun e => x5 (ix1 e))

/-- The result, normalised after the sums over the keys. -/
def after (b : Fin 2) (h : Fin 16) (q : Fin 4096) (d : Fin 128) : EReal :=
  norm (fun d' => outAfter (score x0 x1 b h 0 q) (score x0 x1 b h 1 q) (lam x2 x3 x4 x5) (val x0 b h d')) (x6 (ix1 d)) d

/-- The result, normalised before the sums over the keys. -/
def before (b : Fin 2) (h : Fin 16) (q : Fin 4096) (d : Fin 128) : EReal :=
  norm (fun d' => outBefore (score x0 x1 b h 0 q) (score x0 x1 b h 1 q) (lam x2 x3 x4 x5) (val x0 b h d')) (x6 (ix1 d)) d

/-- The two are equal where every operand but the gain is a real number. -/
theorem after_eq_before (h0 : ∀ b n (j : Fin 6144), IsReal (x0 (ix3 b n ⟨6144 + j.val, by omega⟩))) (h1 : ∀ i, IsReal (x1 i))
    (h2 : ∀ i, IsReal (x2 i)) (h3 : ∀ i, IsReal (x3 i)) (h4 : ∀ i, IsReal (x4 i)) (h5 : ∀ i, IsReal (x5 i))
    (b : Fin 2) (h : Fin 16) (q : Fin 4096) (d : Fin 128) :
    after x0 x1 x2 x3 x4 x5 x6 b h q d = before x0 x1 x2 x3 x4 x5 x6 b h q d := by
  have r0 : ∀ b n (j : ℕ) (hj : j < 12288), 6144 ≤ j → IsReal (x0 (ix3 b n ⟨j, hj⟩)) := fun b n j hj hl => by
    have := h0 b n ⟨j - 6144, by omega⟩
    rwa [show (⟨6144 + (j - 6144), by omega⟩ : Fin 12288) = ⟨j, hj⟩ from Fin.ext (by show 6144 + (j - 6144) = j; omega)] at this
  have hs : ∀ p k, IsReal (score x0 x1 b h p q k) := fun p k =>
    IsReal.add (IsReal.sum fun e => IsReal.mul (r0 _ _ _ _ (by omega)) (r0 _ _ _ _ (by omega))) (h1 _)
  have hc : IsReal (Ideal.ofBits FTy.f32 0x3E4CCCCD#32) := by
    simp [Ideal.ofBits, Ideal.ieee]; exact IsReal.mul ⟨_, rfl⟩ ⟨_, rfl⟩
  have hl : IsReal (lam x2 x3 x4 x5) :=
    IsReal.add (IsReal.sub (IsReal.exp (IsReal.sum fun e => IsReal.mul (h2 _) (h3 _))) (IsReal.exp (IsReal.sum fun e => IsReal.mul (h4 _) (h5 _)))) hc
  unfold after before
  congr 1
  funext d'
  exact outAfter_eq (hs 0) (hs 1) hl (fun k => r0 _ _ _ _ (by omega))

end Cert.Attn

end
-- ==== Proof.Block.lean ====
/-
  What one grid point of the attention kernel leaves in its output block, as an expression in the blocks it
  reads: the stored value is `body`, whose bias is assembled from 64 tiles of the 63-tile stack.
-/
module

public import proofs.«01_k».proof.Proof.Gen.KernelIdeal.Value

@[expose] public section

set_option maxRecDepth 65536

noncomputable section

namespace Cert.KernelIdeal.Block

open Idealize.ShloMosaic Idealize.ShloMosaic.TcCoe Idealize.SL.Sem
open Cert.KernelIdeal Cert.KernelIdeal.Gen

variable {F : FTy → Type} [FloatOps F]

/-- Bias tile `31 + r₁ − (2·qi + r₂)` of the stack, as a matrix: key block `r₁`, query half `r₂`. -/
def tile (i : grid0.Coords) (T : Vec F S1x63x128x128 .f32) (r₁ : Fin 32) (r₂ : Fin 2) : FVec F S128x128 .f32 :=
  shapeCast S128x128 (View.ld T (Rect.unit (s := S1x63x128x128)
    (k0_off1 i (BitVec.ofNat 32 (31 + r₁.val)) (BitVec.ofNat 32 r₂.val)) S1x1x128x128.size (k0_off1_inb i r₁ r₂)))
    shapeCasts_S1x1x128x128_S128x128

/-- The bias of one query half: its 32 tiles side by side. -/
def biasRow (i : grid0.Coords) (T : Vec F S1x63x128x128 .f32) (r₂ : Fin 2) : FVec F S128x4096 .f32 :=
  concatenate S128x4096 1 (List.ofFn fun r₁ : Fin 32 => (⟨S128x128, tile i T r₁ r₂⟩ : Σ s : Shape, Vec F s .f32))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1

/-- The bias of the 256 queries of the point: the two halves one above the other. -/
def bias (i : grid0.Coords) (T : Vec F S1x63x128x128 .f32) : FVec F S256x4096 .f32 :=
  concatenate S256x4096 0 [⟨S128x4096, biasRow i T 0⟩, ⟨S128x4096, biasRow i T 1⟩]
    concatenates_S128x4096_S128x4096_S256x4096_d0

/-- The scores of a (masked) query block: its product with the keys plus the bias. -/
def scores (q : FVec F S256x128 .f32) (k : FVec F S4096x128 .bf16) (b : FVec F S256x4096 .f32) : FVec F S256x4096 .f32 :=
  addf (matmul dot_S256x128_S4096x128_S256x4096_1_1_0_0_n_n none (truncf .bf16 q bitsLt_bf16_f32) k
    (constant S256x4096 .f32 0x00000000#32)) b

/-- The scores exponentiated after their row maximum is taken away. -/
def weights (s : FVec F S256x4096 .f32) : FVec F S256x4096 .f32 :=
  exp (subf s (broadcastTo S256x4096 (shapeCast S256x1
    (multiReduction .maximumf [1] S256 s 0xFF800000#32 reduces_S256x4096_S256 (.inl rfl) rfl)
    shapeCasts_S256_S256x1) broadcasts_S256x1_S256x4096))

/-- The row sums of the weights. -/
def total (p : FVec F S256x4096 .f32) : FVec F S256 .f32 :=
  multiReduction .add [1] S256 p 0x00000000#32 reduces_S256x4096_S256 (.inl rfl) rfl

/-- The query block with only its first 64 lanes. -/
def lower (q : FVec F S256x128 .f32) : FVec F S256x128 .f32 :=
  select (cmpi .slt (iota .tc S256x128 32 [1] iota_S256x128_d1_w32) (broadcast S256x128 64#32)) q
    (broadcast S256x128 (Scalar.ofBits .f32 0x00000000#32))

/-- The query block with only its last 64 lanes. -/
def upper (q : FVec F S256x128 .f32) : FVec F S256x128 .f32 :=
  select (cmpi .sge (iota .tc S256x128 32 [1] iota_S256x128_d1_w32) (broadcast S256x128 64#32)) q
    (broadcast S256x128 (Scalar.ofBits .f32 0x00000000#32))

/-- The weighted sum of the values over the sum of the weights. -/
def attend (p : FVec F S256x4096 .f32) (v : FVec F S4096x128 .bf16) : FVec F S256x128 .f32 :=
  divf (matmul dot_S256x4096_S4096x128_S256x128_1_0_0_1_n_n none (truncf .bf16 p bitsLt_bf16_f32) v
      (constant S256x128 .f32 0x00000000#32))
    (broadcastTo S256x128 (shapeCast S256x1 (total p) shapeCasts_S256_S256x1) broadcasts_S256x1_S256x128)

/-- The difference of the two attentions. -/
def diff (lam : FVec F S1x1 .f32) (q : FVec F S256x128 .f32) (b : FVec F S256x4096 .f32)
    (k v : FVec F S4096x128 .bf16) : FVec F S256x128 .f32 :=
  subf (attend (weights (scores (lower q) k b)) v)
    (mulf (broadcastTo S256x128 lam broadcasts_S1x1_S256x128) (attend (weights (scores (upper q) k b)) v))

/-- The row normalisation of the difference, with its gain and constant factor. -/
def normed (o : FVec F S256x128 .f32) (g : Vec F S1x128 .f32) : FVec F S256x128 .bf16 :=
  truncf .bf16 (mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x3727C5AC#32))))
      broadcasts_S256x1_S256x128))
    (broadcastTo S256x128 (shapeCast S1x128 g shapeCasts_S1x128_S1x128) broadcasts_S1x128_S256x128))
    (broadcast S256x128 (Scalar.ofBits .f32 0x3F4CCCCD#32))) bitsLt_bf16_f32

/-- What a point stores, from the blocks and from the keys and values it holds. -/
def body (i : grid0.Coords) (x0 : Vec F S1x256x128 .f32) (x3 : Vec F S1x63x128x128 .f32) (x4 x5 x6 x7 : Vec F S1x64 .f32)
    (x8 : Vec F S1x128 .f32) (k v : FVec F S4096x128 .bf16) : Vec F S1x256x128 .bf16 :=
  k0_pay1 (normed (diff (k0_pay4 x4 x5 x6 x7) (k0_pay5 x0) (bias i x3) k v) x8)

theorem zero2 : (![0, 0] : Fin 2 → Nat) = fun _ => 0 := funext fun a => by fin_cases a <;> rfl
theorem zero3 : (![0, 0, 0] : Fin 3 → Nat) = fun _ => 0 := funext fun a => by fin_cases a <;> rfl

/-- A point that finds keys and values in the scratch stores `body` of them. -/
theorem out_B (c : Dev nD) (i : grid0.Coords) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x63x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S4096x128 .bf16) (harg13 : arg13.IsWhole) (arg14 : Memref sig .tc .vmem S4096x128 .bf16) (harg14 : arg14.IsWhole) (hc0 : ¬cond0_0 i)
    (x0 : Vec F S1x256x128 .f32) (x1 : Vec F S1x4096x128 .f32) (x2 : Vec F S1x4096x128 .f32) (x3 : Vec F S1x63x128x128 .f32) (x4 : Vec F S1x64 .f32) (x5 : Vec F S1x64 .f32) (x6 : Vec F S1x64 .f32) (x7 : Vec F S1x64 .f32) (x8 : Vec F S1x128 .f32) (xs0 xs1 : Vec F S4096x128 .bf16) :
    out0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 = body i x0 x3 x4 x5 x6 x7 x8 xs0 xs1 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  rw [View.canon_unit_zero zero3]
  simp only [View.readAt_eq_ld, harg3.read_unread, harg4.read_unread, harg5.read_unread, harg6.read_unread, harg7.read_unread, harg8.read_unread, harg9.read_unread, harg10.read_unread, harg11.read_unread, harg13.read_unread, harg14.read_unread,
    View.ld_unit_zero (S := S1x256x128) zero3, View.ld_unit_zero (S := S4096x128) zero2,
    View.ld_unit_zero (S := S1x64) zero2, View.ld_unit_zero (S := S1x128) zero2]
  rfl

/-- The first point of a head fills the scratch with the head's keys and values and stores `body` of them. -/
theorem out_A (c : Dev nD) (i : grid0.Coords) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x63x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S4096x128 .bf16) (harg13 : arg13.IsWhole) (arg14 : Memref sig .tc .vmem S4096x128 .bf16) (harg14 : arg14.IsWhole) (hc0 : cond0_0 i)
    (x0 : Vec F S1x256x128 .f32) (x1 : Vec F S1x4096x128 .f32) (x2 : Vec F S1x4096x128 .f32) (x3 : Vec F S1x63x128x128 .f32) (x4 : Vec F S1x64 .f32) (x5 : Vec F S1x64 .f32) (x6 : Vec F S1x64 .f32) (x7 : Vec F S1x64 .f32) (x8 : Vec F S1x128 .f32) :
    out0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = body i x0 x3 x4 x5 x6 x7 x8 (k0_pay2 x1) (k0_pay3 x2) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero zero3]
  simp only [View.readAt_eq_ld, harg3.read_unread, harg4.read_unread, harg5.read_unread, harg6.read_unread, harg7.read_unread, harg8.read_unread, harg9.read_unread, harg10.read_unread, harg11.read_unread,
    View.readCov_unit_zero (S := S4096x128) _ zero2,
    View.ld_unit_zero (S := S1x256x128) zero3, View.ld_unit_zero (S := S1x4096x128) zero3,
    View.ld_unit_zero (S := S1x64) zero2, View.ld_unit_zero (S := S1x128) zero2]
  rfl

/-- The keys the first point of a head leaves in the scratch. -/
theorem keys_A (c : Dev nD) (i : grid0.Coords) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x63x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S4096x128 .bf16) (harg13 : arg13.IsWhole) (arg14 : Memref sig .tc .vmem S4096x128 .bf16) (harg14 : arg14.IsWhole) (hc0 : cond0_0 i)
    (x0 : Vec F S1x256x128 .f32) (x1 : Vec F S1x4096x128 .f32) (x2 : Vec F S1x4096x128 .f32) (x3 : Vec F S1x63x128x128 .f32) (x4 : Vec F S1x64 .f32) (x5 : Vec F S1x64 .f32) (x6 : Vec F S1x64 .f32) (x7 : Vec F S1x64 .f32) (x8 : Vec F S1x128 .f32) :
    sout0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread, View.ld_unit_zero (S := S1x4096x128) zero3]

/-- The values the first point of a head leaves in the scratch. -/
theorem values_A (c : Dev nD) (i : grid0.Coords) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x63x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S4096x128 .bf16) (harg13 : arg13.IsWhole) (arg14 : Memref sig .tc .vmem S4096x128 .bf16) (harg14 : arg14.IsWhole) (hc0 : cond0_0 i)
    (x0 : Vec F S1x256x128 .f32) (x1 : Vec F S1x4096x128 .f32) (x2 : Vec F S1x4096x128 .f32) (x3 : Vec F S1x63x128x128 .f32) (x4 : Vec F S1x64 .f32) (x5 : Vec F S1x64 .f32) (x6 : Vec F S1x64 .f32) (x7 : Vec F S1x64 .f32) (x8 : Vec F S1x128 .f32) :
    sout0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 x2 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread, View.ld_unit_zero (S := S1x4096x128) zero3]

end Cert.KernelIdeal.Block

end
-- ==== Proof.BlockAt.lean ====
/-
  The stored block of a grid point read at an index, over the extended reals: two attentions of the masked query
  against the point's keys and values, their difference, and its normalisation.
-/
module

public import proofs.«01_k».proof.Proof.Block
public import proofs.«01_k».proof.Proof.Math
public import Idealize.ShloMosaic.Lib.Pointwise
public import Idealize.ShloMosaic.Lib.Tactic.WordOmega
public import Idealize.ShloMosaic.Lib.Pipeline.ValueKit.Tiles

@[expose] public section

set_option maxRecDepth 16384

noncomputable section

namespace Cert.KernelIdeal.Block

open Idealize.ShloMosaic Idealize.ShloMosaic.TcCoe Idealize.SL.Sem
open Cert.KernelIdeal Cert.KernelIdeal.Gen Cert.Attn

/-- The tile a load reads: its number in the stack. -/
theorem off1 (i : grid0.Coords) (r₁ : Fin 32) (r₂ : Fin 2) :
    k0_off1 i (BitVec.ofNat 32 (31 + r₁.val)) (BitVec.ofNat 32 r₂.val) = ![0, 31 + r₁.val - (2 * (i 2).val + r₂.val), 0, 0] := by
  have h2 : (i 2).val < 16 := (i 2).isLt
  have h1 := r₁.isLt
  have h0 := r₂.isLt
  unfold k0_off1
  dsimp only [Scalar.muli, Scalar.addi, Scalar.subi, Scalar.indexCast]
  have e : (IntOp.subi (BitVec.ofNat 32 (31 + r₁.val))
          (IntOp.addi (IntOp.muli (BitVec.ofNat 32 (i 2).val) 2#32) (BitVec.ofNat 32 r₂.val))).toNat
      = 31 + r₁.val - (2 * (i 2).val + r₂.val) := by
    show (BitVec.ofNat 32 (31 + r₁.val) - (BitVec.ofNat 32 (i 2).val * 2#32 + BitVec.ofNat 32 r₂.val)).toNat = _
    simp only [BitVec.toNat_sub, BitVec.toNat_add, BitVec.toNat_mul, BitVec.toNat_ofNat]
    omega
  exact congrArg (fun n => ![0, n, 0, 0]) e

theorem cast_tile (X : Vec Ideal S1x1x128x128 .f32) (a b : Fin 128) :
    shapeCast S128x128 X shapeCasts_S1x1x128x128_S128x128 (ix2 a b) = X (ix4 0 0 a b) := by
  pointwise

theorem tile_apply (i : grid0.Coords) (T : Vec Ideal S1x63x128x128 .f32) (r₁ : Fin 32) (r₂ : Fin 2) (a b : Fin 128) (n : Fin 63)
    (hn : n.val = 31 + r₁.val - (2 * (i 2).val + r₂.val)) :
    tile i T r₁ r₂ (ix2 a b) = T (ix4 0 n a b) := by
  refine (cast_tile _ a b).trans (View.ld_unit_apply_of T _ _ _ _ _ fun d => ?_)
  have h := congrFun (off1 i r₁ r₂) d
  refine Eq.trans ?_ (congrArg (· + _) h.symm)
  fin_cases d
  · rfl
  · exact hn
  · show a.val = 0 + a.val; omega
  · show b.val = 0 + b.val; omega

theorem biasRow_apply (i : grid0.Coords) (T : Vec Ideal S1x63x128x128 .f32) (r₂ : Fin 2) (a : Fin 128) (y : Fin 4096) :
    biasRow i T r₂ (ix2 a y) = tile i T ⟨y.val / 128, by omega⟩ r₂ (ix2 a ⟨y.val % 128, by omega⟩) := by
  refine concatenate_ofFn_apply (t := S128x4096) (s₁ := S128x128) 1 (fun r₁ : Fin 32 => tile i T r₁ r₂) _ rfl 128 rfl (ix2 a y)
    ⟨y.val / 128, by omega⟩ rfl (ix2 a ⟨y.val % 128, by omega⟩) rfl fun d hd => ?_
  fin_cases d
  · rfl
  · exact absurd rfl hd

/-- The bias of query `x` of the point and key `y`: row `x mod 128`, column `y mod 128` of the tile their blocks name. -/
theorem bias_apply (i : grid0.Coords) (T : Vec Ideal S1x63x128x128 .f32) (x : Fin 256) (y : Fin 4096) :
    bias i T (ix2 x y) = T (ix4 0 ⟨31 + y.val / 128 - (2 * (i 2).val + x.val / 128), by omega⟩ ⟨x.val % 128, by omega⟩ ⟨y.val % 128, by omega⟩) := by
  pointwise [bias]
  split
  · rename_i h
    rw [biasRow_apply, tile_apply i T _ _ _ _ ⟨31 + y.val / 128 - (2 * (i 2).val + x.val / 128), by omega⟩ (by simp only [Fin.val_zero]; omega)]
    congr 2
    exact Fin.ext (by simp only; omega)
  · rename_i h
    rw [biasRow_apply, tile_apply i T _ _ _ _ ⟨31 + y.val / 128 - (2 * (i 2).val + x.val / 128), by omega⟩ (by simp only [Fin.val_one]; omega)]
    congr 2
    exact Fin.ext (by simp only; omega)

theorem lane_lower : ∀ b : Fin 128, IntOp.cmpi CmpIPredicate.slt (BitVec.ofNat 32 b.val) 64#32 = if b.val < 64 then 1#1 else 0#1 := by
  decide +kernel

theorem lane_upper : ∀ b : Fin 128, IntOp.cmpi CmpIPredicate.sge (BitVec.ofNat 32 b.val) 64#32 = if 64 ≤ b.val then 1#1 else 0#1 := by
  decide +kernel

theorem lower_apply (q : FVec Ideal S256x128 .f32) (a : Fin 256) (b : Fin 128) :
    lower q (ix2 a b) = if b.val < 64 then q (ix2 a b) else 0 := by
  pointwise [lower]
  rw [lane_lower]
  split <;> rfl

theorem upper_apply (q : FVec Ideal S256x128 .f32) (a : Fin 256) (b : Fin 128) :
    upper q (ix2 a b) = if 64 ≤ b.val then q (ix2 a b) else 0 := by
  pointwise [upper]
  rw [lane_upper]
  split <;> rfl

theorem scores_apply (q : FVec Ideal S256x128 .f32) (k : FVec Ideal S4096x128 .bf16) (b : FVec Ideal S256x4096 .f32)
    (x : Fin 256) (y : Fin 4096) :
    scores q k b (ix2 x y) = (∑ e : Fin 128, q (ix2 x e) * k (ix2 y e)) + b (ix2 x y) := by
  pointwise [scores]

theorem weights_apply (s : FVec Ideal S256x4096 .f32) (x : Fin 256) (y : Fin 4096) :
    weights s (ix2 x y) = wt (fun k => s (ix2 x k)) y := by
  pointwise [weights]
  rw [show Ideal.ofBits FTy.f32 4286578688#32 = (⊥ : EReal) from by simp [Ideal.ofBits, Ideal.ieee]]
  rfl

theorem attend_apply (p : FVec Ideal S256x4096 .f32) (v : FVec Ideal S4096x128 .bf16) (x : Fin 256) (d : Fin 128) :
    attend p v (ix2 x d) = Ideal.div (∑ k : Fin 4096, p (ix2 x k) * v (ix2 k d)) (∑ k : Fin 4096, p (ix2 x k)) := by
  pointwise [attend, total]

theorem diff_apply (lam : FVec Ideal S1x1 .f32) (q : FVec Ideal S256x128 .f32) (b : FVec Ideal S256x4096 .f32)
    (k v : FVec Ideal S4096x128 .bf16) (x : Fin 256) (d : Fin 128) :
    diff lam q b k v (ix2 x d) =
      outAfter (fun n => (∑ e : Fin 64, q (ix2 x ⟨0 * 64 + e.val, by omega⟩) * k (ix2 n ⟨0 * 64 + e.val, by omega⟩)) + b (ix2 x n))
        (fun n => (∑ e : Fin 64, q (ix2 x ⟨1 * 64 + e.val, by omega⟩) * k (ix2 n ⟨1 * 64 + e.val, by omega⟩)) + b (ix2 x n))
        (lam (ix2 0 0)) (fun n => v (ix2 n d)) := by
  have hl : (fun n : Fin 4096 => scores (lower q) k b (ix2 x n)) = fun n =>
      (∑ e : Fin 64, q (ix2 x ⟨0 * 64 + e.val, by omega⟩) * k (ix2 n ⟨0 * 64 + e.val, by omega⟩)) + b (ix2 x n) := funext fun n => by
    rw [scores_apply]
    refine congrArg (· + _) ((Finset.sum_congr rfl fun e _ => by rw [lower_apply]).trans
      (sum_lower (fun e => q (ix2 x e)) fun e => k (ix2 n e)))
  have hu : (fun n : Fin 4096 => scores (upper q) k b (ix2 x n)) = fun n =>
      (∑ e : Fin 64, q (ix2 x ⟨1 * 64 + e.val, by omega⟩) * k (ix2 n ⟨1 * 64 + e.val, by omega⟩)) + b (ix2 x n) := funext fun n => by
    rw [scores_apply]
    refine congrArg (· + _) ((Finset.sum_congr rfl fun e _ => by rw [upper_apply]).trans
      (sum_upper (fun e => q (ix2 x e)) fun e => k (ix2 n e)))
  have h : diff lam q b k v (ix2 x d) = attend (weights (scores (lower q) k b)) v (ix2 x d)
      - lam (ix2 0 0) * attend (weights (scores (upper q) k b)) v (ix2 x d) := by
    pointwise [diff]
  rw [h, attend_apply, attend_apply]
  simp only [weights_apply, hl, hu]
  rfl

theorem normed_apply (o : FVec Ideal S256x128 .f32) (g : Vec Ideal S1x128 .f32) (x : Fin 256) (d : Fin 128) :
    normed o g (ix2 x d) = norm (fun e => o (ix2 x e)) (g (ix2 0 d)) d := by
  pointwise [normed]
  rfl

theorem lam_apply (x4 x5 x6 x7 : Vec Ideal S1x64 .f32) :
    k0_pay4 x4 x5 x6 x7 (ix2 0 0) = lamOf (fun e => x4 (ix2 0 e)) (fun e => x5 (ix2 0 e)) (fun e => x6 (ix2 0 e)) (fun e => x7 (ix2 0 e)) := by
  pointwise [k0_pay4]
  rfl

theorem query_apply (x0 : Vec Ideal S1x256x128 .f32) (x : Fin 256) (e : Fin 128) :
    k0_pay5 x0 (ix2 x e) = x0 (ix3 0 x e) := by
  pointwise [k0_pay5]

theorem key_apply (x1 : Vec Ideal S1x4096x128 .f32) (n : Fin 4096) (e : Fin 128) :
    k0_pay2 x1 (ix2 n e) = x1 (ix3 0 n e) := by
  pointwise [k0_pay2]

theorem value_apply (x2 : Vec Ideal S1x4096x128 .f32) (n : Fin 4096) (e : Fin 128) :
    k0_pay3 x2 (ix2 n e) = x2 (ix3 0 n e) := by
  pointwise [k0_pay3]

/-- Entry `(x, d)` of the block a point stores. -/
theorem body_apply (i : grid0.Coords) (x0 : Vec Ideal S1x256x128 .f32) (x1 x2 : Vec Ideal S1x4096x128 .f32)
    (x3 : Vec Ideal S1x63x128x128 .f32) (x4 x5 x6 x7 : Vec Ideal S1x64 .f32) (x8 : Vec Ideal S1x128 .f32) (z : Fin 1) (x : Fin 256) (d : Fin 128) :
    body i x0 x3 x4 x5 x6 x7 x8 (k0_pay2 x1) (k0_pay3 x2) (ix3 z x d) =
      norm (fun d' => outAfter
          (fun n => (∑ e : Fin 64, x0 (ix3 0 x ⟨0 * 64 + e.val, by omega⟩) * x1 (ix3 0 n ⟨0 * 64 + e.val, by omega⟩))
            + x3 (ix4 0 ⟨31 + n.val / 128 - (2 * (i 2).val + x.val / 128), by omega⟩ ⟨x.val % 128, by omega⟩ ⟨n.val % 128, by omega⟩))
          (fun n => (∑ e : Fin 64, x0 (ix3 0 x ⟨1 * 64 + e.val, by omega⟩) * x1 (ix3 0 n ⟨1 * 64 + e.val, by omega⟩))
            + x3 (ix4 0 ⟨31 + n.val / 128 - (2 * (i 2).val + x.val / 128), by omega⟩ ⟨x.val % 128, by omega⟩ ⟨n.val % 128, by omega⟩))
          (lamOf (fun e => x4 (ix2 0 e)) (fun e => x5 (ix2 0 e)) (fun e => x6 (ix2 0 e)) (fun e => x7 (ix2 0 e)))
          (fun n => x2 (ix3 0 n d'))) (x8 (ix2 0 d)) d := by
  have h : body i x0 x3 x4 x5 x6 x7 x8 (k0_pay2 x1) (k0_pay3 x2) (ix3 z x d) =
      normed (diff (k0_pay4 x4 x5 x6 x7) (k0_pay5 x0) (bias i x3) (k0_pay2 x1) (k0_pay3 x2)) x8 (ix2 x d) := by
    pointwise [body, k0_pay1]
  rw [h, normed_apply]
  simp only [diff_apply, query_apply, key_apply, value_apply, bias_apply, lam_apply]

end Cert.KernelIdeal.Block
end
-- ==== Proof.Array.lean ====
/-
  What the result array of the attention kernel ends holding: every point of the grid writes one block of 256 query
  rows of one head, and the blocks cover the array.
-/
module

public import proofs.«01_k».proof.Proof.Tiles
public import proofs.«01_k».proof.Proof.Spec
public import proofs.«01_k».proof.Proof.BlockAt
public import Idealize.ShloMosaic.Lib.Pipeline.Value

@[expose] public section

set_option maxRecDepth 16384
set_option maxHeartbeats 1000000

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.KernelIdeal.Block Cert.Attn

variable (m : (ℓ : Loc nD τ sig) → Buf (Elt Ideal) ℓ) (c : Dev nD)

/-- The block indices of every window, and the last grid coordinate. -/
theorem idx_facts : ∀ t : Fin grid0.N,
    ((win0_0.index t 0 = t.val / 256 ∧ win0_0.index t 1 = t.val % 16 ∧ win0_0.index t 2 = 48 + t.val / 16 % 16) ∧
    (win0_1.index t 0 = t.val / 256 ∧ win0_1.index t 1 = 0 ∧ win0_1.index t 2 = 64 + t.val / 16 % 16) ∧
    (win0_2.index t 0 = t.val / 256 ∧ win0_2.index t 1 = 0 ∧ win0_2.index t 2 = 80 + t.val / 16 % 16)) ∧
    (win0_3.index t 0 = t.val / 16 % 16 ∧ win0_3.index t 1 = 0 ∧ win0_3.index t 2 = 0 ∧ win0_3.index t 3 = 0) ∧
    (win0_9.index t 0 = t.val / 256 ∧ win0_9.index t 1 = t.val % 16 ∧ win0_9.index t 2 = t.val / 16 % 16) ∧
    (grid0.coords t 2).val = t.val % 16 := by
  decide +kernel

theorem const_facts : ∀ t : Fin grid0.N,
    (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧
    (win0_8.index t 0 = 0 ∧ win0_8.index t 1 = 0) := by
  decide +kernel

theorem lt512 (t : Fin grid0.N) : t.val < 512 := lt_of_lt_of_eq t.isLt N_0

abbrev seqOf (t : Fin grid0.N) : Fin 2 := ⟨t.val / 256, by have := lt512 t; omega⟩
abbrev headOf (t : Fin grid0.N) : Fin 16 := ⟨t.val / 16 % 16, by omega⟩

theorem query_block (t : Fin grid0.N) (x : Fin 256) (e : Fin 128) :
    (iblk m c 0 t : Vec Ideal S1x256x128 .f32) (ix3 0 x e) =
      m (c, main_arg0) (ix3 (seqOf t) ⟨256 * (t.val % 16) + x.val, by omega⟩ ⟨6144 + ((headOf t).val * 128 + e.val), by have := (headOf t).isLt; omega⟩) := by
  obtain ⟨⟨⟨h0, h1, h2⟩, _⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_0.index t 0 * 1 + 1 * 0 = t.val / 256; rw [h0]; omega
  | ⟨1, _⟩ => show win0_0.index t 1 * 256 + 1 * x.val = 256 * (t.val % 16) + x.val; rw [h1]; omega
  | ⟨2, _⟩ => show win0_0.index t 2 * 128 + 1 * e.val = 6144 + (t.val / 16 % 16 * 128 + e.val); rw [h2]; omega

theorem key_block (t : Fin grid0.N) (n : Fin 4096) (e : Fin 128) :
    (iblk m c 1 t : Vec Ideal S1x4096x128 .f32) (ix3 0 n e) =
      m (c, main_arg0) (ix3 (seqOf t) n ⟨8192 + ((headOf t).val * 128 + e.val), by have := (headOf t).isLt; omega⟩) := by
  obtain ⟨⟨_, ⟨h0, h1, h2⟩, _⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_1.index t 0 * 1 + 1 * 0 = t.val / 256; rw [h0]; omega
  | ⟨1, _⟩ => show win0_1.index t 1 * 4096 + 1 * n.val = n.val; rw [h1]; omega
  | ⟨2, _⟩ => show win0_1.index t 2 * 128 + 1 * e.val = 8192 + (t.val / 16 % 16 * 128 + e.val); rw [h2]; omega

theorem value_block (t : Fin grid0.N) (n : Fin 4096) (e : Fin 128) :
    (iblk m c 2 t : Vec Ideal S1x4096x128 .f32) (ix3 0 n e) =
      m (c, main_arg0) (ix3 (seqOf t) n ⟨10240 + ((headOf t).val * 128 + e.val), by have := (headOf t).isLt; omega⟩) := by
  obtain ⟨⟨_, _, ⟨h0, h1, h2⟩⟩, _⟩ := idx_facts t
  unfold iblk
  rw [View.read_apply]
  show V m c main_arg0 _ = _
  rw [V_main_arg0]
  show m (c, main_arg0) _ = _
  congr 1
  funext a
  apply Fin.ext
  match a with
  | ⟨0, _⟩ => show win0_2.index t 0 * 1 + 1 * 0 = t.val / 256; rw [h0]; omega
  | ⟨1, _⟩ => show win0_2.index t 1 * 4096 + 1 * n.val = n.val; rw [h1]; omega
  | ⟨2, _⟩ => show win0_2.index t 2 * 128 + 1 * e.val = 10240 + (t.val / 16 % 16 * 128 + e.val); rw [h2]; omega

theorem tile_block (t : Fin grid0.N) (r : Fin 63) (a b : Fin 128) :
    (iblk m c 3 t : Vec Ideal S1x63x128x128 .f32) (ix4 0 r a b) =
      entry (m (c, main_arg1)) (((4294967265#32 + BitVec.ofNat 32 r.val) * 128#32 + BitVec.ofNat 32 b.val) - BitVec.ofNat 32 a.val) (headOf t) := by
  obtain ⟨_, ⟨h0, h1, h2, h3⟩, _⟩ := idx_facts t
  rw [← Host.tiles_apply]
  unfold iblk
  rw [View.read_apply]
  show V m c main_v47 _ = _
  rw [Host.V_tiles]
  congr 1
  funext e
  apply Fin.ext
  match e with
  | ⟨0, _⟩ => show win0_3.index t 0 * 1 + 1 * 0 = t.val / 16 % 16; rw [h0]; omega
  | ⟨1, _⟩ => show win0_3.index t 1 * 63 + 1 * r.val = r.val; rw [h1]; omega
  | ⟨2, _⟩ => show win0_3.index t 2 * 128 + 1 * a.val = a.val; rw [h2]; omega
  | ⟨3, _⟩ => show win0_3.index t 3 * 128 + 1 * b.val = b.val; rw [h3]; omega

theorem lq1_block (t : Fin grid0.N) (e : Fin 64) :
    (iblk m c 4 t : Vec Ideal S1x64 .f32) (ix2 0 e) = m (c, main_arg2) (ix1 e) := by
  obtain ⟨⟨h0, h1⟩, _⟩ := const_facts t
  have hr : shapeCast S1x64 (m (c, main_arg2)) shapeCasts_S64_S1x64 (ix2 0 e) = m (c, main_arg2) (ix1 e) := by pointwise []
  rw [← hr]
  unfold iblk
  rw [View.read_apply]
  show V m c main_v48 _ = _
  rw [Host.V_lq1]
  congr 1
  funext a
  apply Fin.ext
  match a with
  | ⟨0, _⟩ => show win0_4.index t 0 * 1 + 1 * 0 = 0; rw [h0]
  | ⟨1, _⟩ => show win0_4.index t 1 * 64 + 1 * e.val = e.val; rw [h1]; omega

theorem lk1_block (t : Fin grid0.N) (e : Fin 64) :
    (iblk m c 5 t : Vec Ideal S1x64 .f32) (ix2 0 e) = m (c, main_arg3) (ix1 e) := by
  obtain ⟨_, ⟨h0, h1⟩, _⟩ := const_facts t
  have hr : shapeCast S1x64 (m (c, main_arg3)) shapeCasts_S64_S1x64 (ix2 0 e) = m (c, main_arg3) (ix1 e) := by pointwise []
  rw [← hr]
  unfold iblk
  rw [View.read_apply]
  show V m c main_v49 _ = _
  rw [Host.V_lk1]
  congr 1
  funext a
  apply Fin.ext
  match a with
  | ⟨0, _⟩ => show win0_5.index t 0 * 1 + 1 * 0 = 0; rw [h0]
  | ⟨1, _⟩ => show win0_5.index t 1 * 64 + 1 * e.val = e.val; rw [h1]; omega

theorem lq2_block (t : Fin grid0.N) (e : Fin 64) :
    (iblk m c 6 t : Vec Ideal S1x64 .f32) (ix2 0 e) = m (c, main_arg4) (ix1 e) := by
  obtain ⟨_, _, ⟨h0, h1⟩, _⟩ := const_facts t
  have hr : shapeCast S1x64 (m (c, main_arg4)) shapeCasts_S64_S1x64 (ix2 0 e) = m (c, main_arg4) (ix1 e) := by pointwise []
  rw [← hr]
  unfold iblk
  rw [View.read_apply]
  show V m c main_v50 _ = _
  rw [Host.V_lq2]
  congr 1
  funext a
  apply Fin.ext
  match a with
  | ⟨0, _⟩ => show win0_6.index t 0 * 1 + 1 * 0 = 0; rw [h0]
  | ⟨1, _⟩ => show win0_6.index t 1 * 64 + 1 * e.val = e.val; rw [h1]; omega

theorem lk2_block (t : Fin grid0.N) (e : Fin 64) :
    (iblk m c 7 t : Vec Ideal S1x64 .f32) (ix2 0 e) = m (c, main_arg5) (ix1 e) := by
  obtain ⟨_, _, _, ⟨h0, h1⟩, _⟩ := const_facts t
  have hr : shapeCast S1x64 (m (c, main_arg5)) shapeCasts_S64_S1x64 (ix2 0 e) = m (c, main_arg5) (ix1 e) := by pointwise []
  rw [← hr]
  unfold iblk
  rw [View.read_apply]
  show V m c main_v51 _ = _
  rw [Host.V_lk2]
  congr 1
  funext a
  apply Fin.ext
  match a with
  | ⟨0, _⟩ => show win0_7.index t 0 * 1 + 1 * 0 = 0; rw [h0]
  | ⟨1, _⟩ => show win0_7.index t 1 * 64 + 1 * e.val = e.val; rw [h1]; omega

theorem gain_block (t : Fin grid0.N) (e : Fin 128) :
    (iblk m c 8 t : Vec Ideal S1x128 .f32) (ix2 0 e) = m (c, main_arg6) (ix1 e) := by
  obtain ⟨_, _, _, _, ⟨h0, h1⟩⟩ := const_facts t
  have hr : shapeCast S1x128 (m (c, main_arg6)) shapeCasts_S128_S1x128 (ix2 0 e) = m (c, main_arg6) (ix1 e) := by pointwise []
  rw [← hr]
  unfold iblk
  rw [View.read_apply]
  show V m c main_v52 _ = _
  rw [Host.V_gain]
  congr 1
  funext a
  apply Fin.ext
  match a with
  | ⟨0, _⟩ => show win0_8.index t 0 * 1 + 1 * 0 = 0; rw [h0]
  | ⟨1, _⟩ => show win0_8.index t 1 * 128 + 1 * e.val = e.val; rw [h1]; omega

/-- The distance read off tile `31 + k/128 − q/128` at `(q mod 128, k mod 128)` is `k − q`. -/
theorem word_eq (q k : ℕ) (hq : q < 4096) (hk : k < 4096) :
    ((4294967265#32 + BitVec.ofNat 32 (31 + k / 128 - q / 128)) * 128#32 + BitVec.ofNat 32 (k % 128)) - BitVec.ofNat 32 (q % 128)
      = BitVec.ofNat 32 k - BitVec.ofNat 32 q := by
  apply BitVec.eq_of_toNat_eq
  simp only [BitVec.toNat_sub, BitVec.toNat_add, BitVec.toNat_mul, BitVec.toNat_ofNat]
  omega

/-- The block a point computes, at an index: the attention of its sequence, head and query rows. -/
theorem body_at (t : Fin grid0.N) (z : Fin 1) (x : Fin 256) (d : Fin 128) :
    body (grid0.coords t) (iblk m c 0 t) (iblk m c 3 t) (iblk m c 4 t) (iblk m c 5 t) (iblk m c 6 t) (iblk m c 7 t) (iblk m c 8 t)
      (k0_pay2 (iblk m c 1 t)) (k0_pay3 (iblk m c 2 t)) (ix3 z x d) =
    Attn.after (m (c, main_arg0)) (m (c, main_arg1)) (m (c, main_arg2)) (m (c, main_arg3)) (m (c, main_arg4)) (m (c, main_arg5)) (m (c, main_arg6))
      (seqOf t) (headOf t) ⟨256 * (t.val % 16) + x.val, by omega⟩ d := by
  obtain ⟨_, _, _, h2⟩ := idx_facts t
  have hw : ∀ n : Fin 4096, ((4294967265#32 + BitVec.ofNat 32 (31 + n.val / 128 - (2 * (grid0.coords t 2).val + x.val / 128))) * 128#32
        + BitVec.ofNat 32 (n.val % 128)) - BitVec.ofNat 32 (x.val % 128)
      = BitVec.ofNat 32 n.val - BitVec.ofNat 32 (256 * (t.val % 16) + x.val) := fun n => by
    rw [← word_eq (256 * (t.val % 16) + x.val) n.val (by omega) n.isLt, h2,
      show (256 * (t.val % 16) + x.val) / 128 = 2 * (t.val % 16) + x.val / 128 by omega,
      show (256 * (t.val % 16) + x.val) % 128 = x.val % 128 by omega]
  rw [body_apply]
  simp only [query_block, key_block, value_block, tile_block, lq1_block, lk1_block, lq2_block, lk2_block, gain_block, hw]
  rfl

end Cert.KernelIdeal.Array

end
-- ==== Proof.Final.lean ====
/-
  The keys and values a head's first point leaves in the scratch serve all sixteen points of that head, so every
  point writes the block of the attention; the blocks cover the array.
-/
module

public import proofs.«01_k».proof.Proof.Array

@[expose] public section

set_option maxRecDepth 16384
set_option maxHeartbeats 1000000

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.KernelIdeal.Block Cert.Attn

variable (m : (ℓ : Loc nD τ sig) → Buf (Elt Ideal) ℓ) (c : Dev nD)

/-- Two points of one head read the same keys. -/
theorem key_same (s t : Fin grid0.N) (h : s.val / 16 = t.val / 16) :
    (iblk m c 1 s : Vec Ideal S1x4096x128 .f32) = iblk m c 1 t := by
  have hs : seqOf s = seqOf t := Fin.ext (by show s.val / 256 = t.val / 256; omega)
  have hh : headOf s = headOf t := Fin.ext (by show s.val / 16 % 16 = t.val / 16 % 16; omega)
  refine funext fun (j : S1x4096x128.Idx) => ?_
  obtain ⟨z, n, e, rfl⟩ : ∃ (z : Fin 1) (n : Fin 4096) (e : Fin 128), j = ix3 z n e := ⟨j 0, j 1, j 2, eq_ix3 j⟩
  obtain rfl : z = 0 := Subsingleton.elim _ _
  rw [key_block m c s n e, key_block m c t n e, hs]
  exact congrArg (fun g : Fin 16 => m (c, main_arg0) (ix3 (seqOf t) n ⟨8192 + (g.val * 128 + e.val), by have := g.isLt; omega⟩)) hh

/-- Two points of one head read the same values. -/
theorem value_same (s t : Fin grid0.N) (h : s.val / 16 = t.val / 16) :
    (iblk m c 2 s : Vec Ideal S1x4096x128 .f32) = iblk m c 2 t := by
  have hs : seqOf s = seqOf t := Fin.ext (by show s.val / 256 = t.val / 256; omega)
  have hh : headOf s = headOf t := Fin.ext (by show s.val / 16 % 16 = t.val / 16 % 16; omega)
  refine funext fun (j : S1x4096x128.Idx) => ?_
  obtain ⟨z, n, e, rfl⟩ : ∃ (z : Fin 1) (n : Fin 4096) (e : Fin 128), j = ix3 z n e := ⟨j 0, j 1, j 2, eq_ix3 j⟩
  obtain rfl : z = 0 := Subsingleton.elim _ _
  rw [value_block m c s n e, value_block m c t n e, hs]
  exact congrArg (fun g : Fin 16 => m (c, main_arg0) (ix3 (seqOf t) n ⟨10240 + (g.val * 128 + e.val), by have := g.isLt; omega⟩)) hh

/-- A head's first point leaves its keys and values in the scratch. -/
theorem scratch_first (t : Fin cfg0.N) (h0 : t.val % 16 = 0) :
    (outsAt0 m c t.val t.isLt).2.1 = k0_pay2 (iblk m c 1 t) ∧ (outsAt0 m c t.val t.isLt).2.2 = k0_pay3 (iblk m c 2 t) := by
  simp only [outsAt0_A m c t h0]
  refine ⟨?_, ?_⟩
  · rw [keys_A]
  · rw [values_A]

/-- Every other point leaves the scratch as it found it. -/
theorem scratch_next (t : Fin cfg0.N) (h0 : ¬t.val % 16 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 :=
  ⟨(congrArg (fun p => p.2.1) (outsAt0_B m c t h0)).trans (by dsimp only; unfold sout0_B_0; with_reducible rfl),
    (congrArg (fun p => p.2.2) (outsAt0_B m c t h0)).trans (by dsimp only; unfold sout0_B_1; with_reducible rfl)⟩

/-- After every point the scratch holds that head's keys and values. -/
theorem scratch_eq (n : ℕ) : ∀ hn : n < cfg0.N,
    (outsAt0 m c n hn).2.1 = k0_pay2 (iblk m c 1 ⟨n, hn⟩) ∧ (outsAt0 m c n hn).2.2 = k0_pay3 (iblk m c 2 ⟨n, hn⟩) := by
  induction n with
  | zero => exact fun hn => scratch_first m c ⟨0, hn⟩ rfl
  | succ n ih =>
    intro hn
    by_cases h0 : (n + 1) % 16 = 0
    · exact scratch_first m c ⟨n + 1, hn⟩ h0
    · obtain ⟨hk, hv⟩ := scratch_next m c ⟨n + 1, hn⟩ h0
      obtain ⟨ik, iv⟩ := ih (Nat.lt_of_succ_lt hn)
      exact ⟨hk.trans (ik.trans (congrArg k0_pay2 (key_same m c ⟨n, Nat.lt_of_succ_lt hn⟩ ⟨n + 1, hn⟩ (by show n / 16 = (n + 1) / 16; omega)))),
        hv.trans (iv.trans (congrArg k0_pay3 (value_same m c ⟨n, Nat.lt_of_succ_lt hn⟩ ⟨n + 1, hn⟩ (by show n / 16 = (n + 1) / 16; omega))))⟩

/-- What a point leaves in the output block. -/
theorem outs_eq (t : Fin cfg0.N) : (outsAt0 m c t.val t.isLt).1 =
    body (grid0.coords t) (iblk m c 0 t) (iblk m c 3 t) (iblk m c 4 t) (iblk m c 5 t) (iblk m c 6 t) (iblk m c 7 t) (iblk m c 8 t)
      (k0_pay2 (iblk m c 1 t)) (k0_pay3 (iblk m c 2 t)) := by
  by_cases h0 : t.val % 16 = 0
  · simp only [outsAt0_A m c t h0]
    rw [out_A]
  · obtain ⟨hk, hv⟩ := scratch_eq m c (t.val - 1) (Nat.lt_of_le_of_lt (Nat.sub_le _ _) t.isLt)
    simp only [outsAt0_B m c t h0]
    rw [out_B, hk, hv, key_same m c ⟨t.val - 1, Nat.lt_of_le_of_lt (Nat.sub_le _ _) t.isLt⟩ t (by show (t.val - 1) / 16 = t.val / 16; omega),
      value_same m c ⟨t.val - 1, Nat.lt_of_le_of_lt (Nat.sub_le _ _) t.isLt⟩ t (by show (t.val - 1) / 16 = t.val / 16; omega)]

/-- The result array. -/
def result : S2x4096x2048.Idx → EReal := fun i =>
  Attn.after (m (c, main_arg0)) (m (c, main_arg1)) (m (c, main_arg2)) (m (c, main_arg3)) (m (c, main_arg4)) (m (c, main_arg5)) (m (c, main_arg6))
    (i 0) ⟨(i 2).val / 128, by have : (i 2).val < 2048 := (i 2).isLt; omega⟩ (i 1) ⟨(i 2).val % 128, by omega⟩

theorem flushed_eq (t : Fin cfg0.N) :
    (dats m 0 c).flushed 9 t = ((cfg0.win 9).blk t).view.read (Elt Ideal) (result m c) := by
  rw [Value.flushed9, outs_eq]
  obtain ⟨_, _, ⟨h0, h1, h2⟩, _⟩ := idx_facts t
  refine funext fun (j : S1x256x128.Idx) => ?_
  obtain ⟨z, x, d, rfl⟩ : ∃ (z : Fin 1) (x : Fin 256) (d : Fin 128), j = ix3 z x d := ⟨j 0, j 1, j 2, eq_ix3 j⟩
  obtain rfl : z = 0 := Subsingleton.elim _ _
  refine (body_at m c t 0 x d).trans ?_
  rw [View.read_apply]
  have hj : (((cfg0.win 9).blk t).view.emb (ix3 0 x d) : S2x4096x2048.Idx)
      = ix3 (seqOf t) ⟨256 * (t.val % 16) + x.val, by omega⟩ ⟨(headOf t).val * 128 + d.val, by have := (headOf t).isLt; omega⟩ := by
    funext a
    apply Fin.ext
    match a with
    | ⟨0, _⟩ => show win0_9.index t 0 * 1 + 1 * 0 = t.val / 256; rw [h0]; omega
    | ⟨1, _⟩ => show win0_9.index t 1 * 256 + 1 * x.val = 256 * (t.val % 16) + x.val; rw [h1]; omega
    | ⟨2, _⟩ => show win0_9.index t 2 * 128 + 1 * d.val = t.val / 16 % 16 * 128 + d.val; rw [h2]; omega
  refine Eq.trans ?_ (congrArg (result m c) hj).symm
  unfold result
  have e1 : headOf t = ⟨((headOf t).val * 128 + d.val) / 128, by have := (headOf t).isLt; omega⟩ := Fin.ext (by show (headOf t).val = ((headOf t).val * 128 + d.val) / 128; omega)
  have e2 : d = ⟨((headOf t).val * 128 + d.val) % 128, by omega⟩ := Fin.ext (by show d.val = ((headOf t).val * 128 + d.val) % 128; omega)
  exact congr (congrFun (congrArg (Attn.after (m (c, main_arg0)) (m (c, main_arg1)) (m (c, main_arg2)) (m (c, main_arg3)) (m (c, main_arg4)) (m (c, main_arg5)) (m (c, main_arg6)) (seqOf t)) e1) _) e2

theorem final_eq : (dats m 0 c).arrAt 9 cfg0.N = result m c :=
  (dats m 0 c).arrAt_eq_of_cover 9 (result m c) (fun t _ => flushed_eq m c t) fun i => by
    have i0 : (i 0 : Nat) < 2 := (i 0).isLt
    have i1 : (i 1 : Nat) < 4096 := (i 1).isLt
    have i2 : (i 2 : Nat) < 2048 := (i 2).isLt
    let t : Fin grid0.N := ⟨((i 0 : Nat) * 16 + (i 2 : Nat) / 128) * 16 + (i 1 : Nat) / 256, by rw [N_0]; omega⟩
    refine ⟨t, flush0_9 t, ?_⟩
    obtain ⟨_, _, ⟨h0, h1, h2⟩, _⟩ := idx_facts t
    have ht : t.val = ((i 0 : Nat) * 16 + (i 2 : Nat) / 128) * 16 + (i 1 : Nat) / 256 := rfl
    show i ∈ ((View.whole main_v53).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [h0]; omega
    | ⟨1, _⟩ =>
      show win0_9.index t 1 * 256 ≤ (i 1 : Nat) ∧ (i 1 : Nat) < win0_9.index t 1 * 256 + 256
      rw [h1]; omega
    | ⟨2, _⟩ =>
      show win0_9.index t 2 * 128 ≤ (i 2 : Nat) ∧ (i 2 : Nat) < win0_9.index t 2 * 128 + 128
      rw [h2]; omega

end Cert.KernelIdeal.Array

end
-- ==== Proof.Reference.lean ====
/-
  What the reference computes, at an index: the scores with their bias, the greatest score of a row, the two softmaxes,
  their difference over the values, the normalisation.
-/
module

public import proofs.«01_k».proof.Proof.Gen.ReferenceIdeal.Read
public import proofs.«01_k».proof.Proof.Spec
public import Idealize.ShloMosaic.Lib.KernelVsHost

@[expose] public section

set_option maxRecDepth 16384
set_option maxHeartbeats 400000

noncomputable section

namespace Cert.ReferenceIdeal.Closed

open Idealize.ShloMosaic Idealize.ShloMosaic.TcCoe
open Cert.ReferenceIdeal Cert.ReferenceIdeal.Gen Cert.ReferenceIdeal.Read Cert.Attn

variable (x0 : (⟨S2x4096x12288, .f32⟩ : BufTy).Contents (Elt Ideal)) (x1 : (⟨S32x16, .f32⟩ : BufTy).Contents (Elt Ideal))
  (x2 x3 x4 x5 : (⟨S64, .f32⟩ : BufTy).Contents (Elt Ideal)) (x6 : (⟨S128, .f32⟩ : BufTy).Contents (Elt Ideal))

theorem query_at (b : Fin 2) (h : Fin 16) (p : Fin 2) (n : Fin 4096) (e : Fin 64) :
    val_main_v2 x0 (ix5 b h p n e) = x0 (ix3 b n ⟨6144 + (h.val * 128 + (p.val * 64 + e.val)), by omega⟩) := by
  pointwise [val_main_v2, val_main_v1, val_main_v0]
  simp only [Nat.add_assoc]

theorem key_at (b : Fin 2) (h : Fin 16) (p : Fin 2) (n : Fin 4096) (e : Fin 64) :
    val_main_v5 x0 (ix5 b h p n e) = x0 (ix3 b n ⟨8192 + (h.val * 128 + (p.val * 64 + e.val)), by omega⟩) := by
  pointwise [val_main_v5, val_main_v4, val_main_v3]
  simp only [Nat.add_assoc]

theorem value_at (b : Fin 2) (h : Fin 16) (n : Fin 4096) (e : Fin 128) :
    val_main_v8 x0 (ix4 b h n e) = x0 (ix3 b n ⟨10240 + (h.val * 128 + e.val), by omega⟩) := by
  pointwise [val_main_v8, val_main_v7, val_main_v6]

theorem lam_at (i : S_.Idx) : val_main_v16 x2 x3 x4 x5 i = lam x2 x3 x4 x5 := by
  pointwise [val_main_v16, val_main_cst_1, val_main_v15, val_main_v14, val_main_v13, val_main_v12, val_main_v11, val_main_v10, val_main_v9, val_main_cst, val_main_cst_0, lam, lamOf]

theorem dot_at (b : Fin 2) (h : Fin 16) (p : Fin 2) (q k : Fin 4096) :
    val_main_v18 x0 (ix5 b h p q k) = ∑ e : Fin 64, val_main_v2 x0 (ix5 b h p q e) * val_main_v5 x0 (ix5 b h p k e) := by
  pointwise [val_main_v18]

theorem rel_at (q k : Fin 4096) : val_main_v23 (F := Ideal) (ix2 q k) = BitVec.ofNat 32 k.val - BitVec.ofNat 32 q.val := by
  pointwise [val_main_v23, val_main_v22, val_main_v21, val_main_v20, val_main_v19, val_main_v17]
  simp only [IntOp.subi]

theorem bucket_at : val_main_v52 (F := Ideal) = bucketVec S4096x4096 bcast_S_S4096x4096 (val_main_v23 (F := Ideal)) := rfl

theorem index_at (q k : Fin 4096) : val_main_v53 (F := Ideal) (ix3 q k 0) = bucketWord (BitVec.ofNat 32 k.val - BitVec.ofNat 32 q.val) := by
  have e : val_main_v53 (F := Ideal) (ix3 q k 0) = val_main_v52 (F := Ideal) (ix2 q k) := by
    pointwise [val_main_v53]
  rw [e, bucket_at, bucketVec_apply, rel_at]

theorem bias_at (b : Fin 2) (h : Fin 16) (p : Fin 2) (q k : Fin 4096) :
    val_main_v57 x1 (ix5 b h p q k) = entry x1 (BitVec.ofNat 32 k.val - BitVec.ofNat 32 q.val) h := by
  have e : val_main_v57 x1 (ix5 b h p q k) = val_main_v54 x1 (ix3 q k h) := by
    pointwise [val_main_v57, val_main_v56, val_main_v55]
  rw [e]
  unfold val_main_v54
  rw [gather_plain, index_at]
  unfold entry
  with_reducible rfl

theorem score_at (b : Fin 2) (h : Fin 16) (p : Fin 2) (q k : Fin 4096) :
    val_main_v58 x0 x1 (ix5 b h p q k) = score x0 x1 b h p q k := by
  have e : val_main_v58 x0 x1 (ix5 b h p q k) = val_main_v18 x0 (ix5 b h p q k) + val_main_v57 x1 (ix5 b h p q k) := rfl
  rw [e, dot_at, bias_at]
  simp only [query_at, key_at]
  unfold score
  with_reducible rfl

/-- The greatest entry of each row of an array. -/
theorem fold_at (y : FVec Ideal S2x16x2x4096x4096 .f32) (b : Fin 2) (h : Fin 16) (p : Fin 2) (q : Fin 4096) :
    Host.reduce FloatOps.maximumf y (val_main_cst_13 (F := Ideal)) reducesTo_S2x16x2x4096x4096_S2x16x2x4096_d4 h_S_ (ix4 b h p q)
      = peak (fun k => y (ix5 b h p q k)) := by
  have hR : S2x16x2x4096x4096.Reduces [4] S2x16x2x4096 := by decide
  unfold val_main_cst_13
  refine (congrFun (hostReduce_maximumf_eq_multiReduction y 0xFF800000#32 reducesTo_S2x16x2x4096x4096_S2x16x2x4096_d4 h_S_ hR (Or.inl rfl) rfl) _).trans ?_
  refine (Ideal.multiReduction_maximumf_single ..).trans ?_
  have hl : (y ∘ hR.lift (ix4 b h p q)) = fun k => y (ix5 b h p q k) := by
    funext k
    refine congrArg y (funext fun a => Fin.ext ?_)
    match a with
    | ⟨0, _⟩ => rfl
    | ⟨1, _⟩ => rfl
    | ⟨2, _⟩ => rfl
    | ⟨3, _⟩ => rfl
    | ⟨4, _⟩ => rfl
  rw [hl]
  show Finset.fold max (Ideal.ofBits FTy.f32 4286578688#32) _ _ = _
  rw [show Ideal.ofBits FTy.f32 4286578688#32 = (⊥:EReal) from by simp [Ideal.ofBits, Ideal.ieee]]
  rfl

theorem max_at (b : Fin 2) (h : Fin 16) (p : Fin 2) (q : Fin 4096) :
    val_main_v61 x0 x1 (ix4 b h p q) = peak (score x0 x1 b h p q) := by
  have e : val_main_v61 x0 x1 (ix4 b h p q) = max (Ideal.ofBits .f32 0xFF800000#32) (val_main_v59 x0 x1 (ix4 b h p q)) := by
    rw [val_main_v61_apply, val_main_v60_apply]
    unfold val_main_cst_14
    generalize val_main_v59 x0 x1 (ix4 b h p q) = y
    rfl
  rw [e]
  have e' : val_main_v59 x0 x1 (ix4 b h p q) = peak (fun k => val_main_v58 x0 x1 (ix5 b h p q k)) := by
    unfold val_main_v59
    exact fold_at (val_main_v58 x0 x1) b h p q
  rw [e']
  simp only [score_at]
  rw [show Ideal.ofBits FTy.f32 4286578688#32 = (⊥:EReal) from by simp [Ideal.ofBits, Ideal.ieee]]
  exact max_eq_right bot_le

theorem weight_at (b : Fin 2) (h : Fin 16) (p : Fin 2) (q k : Fin 4096) :
    val_main_v65 x0 x1 (ix5 b h p q k) = wt (score x0 x1 b h p q) k := by
  have e : val_main_v65 x0 x1 (ix5 b h p q k) = Ideal.exp (val_main_v58 x0 x1 (ix5 b h p q k) - val_main_v61 x0 x1 (ix4 b h p q)) := by
    pointwise [val_main_v65, val_main_v64, val_main_v63, val_main_v62]
  rw [e, score_at, max_at]
  unfold wt
  with_reducible rfl

theorem soft_at (b : Fin 2) (h : Fin 16) (p : Fin 2) (q k : Fin 4096) :
    val_main_v69 x0 x1 (ix5 b h p q k) = Ideal.div (wt (score x0 x1 b h p q) k) (tot (score x0 x1 b h p q)) := by
  have e : val_main_v69 x0 x1 (ix5 b h p q k) = Ideal.div (val_main_v65 x0 x1 (ix5 b h p q k)) (∑ j : Fin 4096, val_main_v65 x0 x1 (ix5 b h p q j)) := by
    pointwise [val_main_v69, val_main_v68, val_main_v67, val_main_v66, val_main_cst_15]
  rw [e]
  simp only [weight_at]
  unfold tot
  with_reducible rfl

theorem first_idx (b : Fin 2) (h : Fin 16) (q k : Fin 4096) : idx_main_v70 (idx_main_v71 (ix4 b h q k)) = ix5 b h 0 q k := by
  funext a
  refine Fin.ext ?_
  match a with
  | ⟨0, _⟩ => show (((b.val * 16 + h.val) * 4096 + q.val) * 4096 + k.val) / 268435456 = b.val; omega
  | ⟨1, _⟩ => show (((b.val * 16 + h.val) * 4096 + q.val) * 4096 + k.val) / 16777216 % 16 = h.val; omega
  | ⟨2, _⟩ => rfl
  | ⟨3, _⟩ => show (((b.val * 16 + h.val) * 4096 + q.val) * 4096 + k.val) / 4096 % 4096 = q.val; omega
  | ⟨4, _⟩ => show (((b.val * 16 + h.val) * 4096 + q.val) * 4096 + k.val) % 4096 = k.val; omega

theorem second_idx (b : Fin 2) (h : Fin 16) (q k : Fin 4096) : idx_main_v72 (idx_main_v73 (ix4 b h q k)) = ix5 b h 1 q k := by
  funext a
  refine Fin.ext ?_
  match a with
  | ⟨0, _⟩ => show (((b.val * 16 + h.val) * 4096 + q.val) * 4096 + k.val) / 268435456 = b.val; omega
  | ⟨1, _⟩ => show (((b.val * 16 + h.val) * 4096 + q.val) * 4096 + k.val) / 16777216 % 16 = h.val; omega
  | ⟨2, _⟩ => rfl
  | ⟨3, _⟩ => show (((b.val * 16 + h.val) * 4096 + q.val) * 4096 + k.val) / 4096 % 4096 = q.val; omega
  | ⟨4, _⟩ => show (((b.val * 16 + h.val) * 4096 + q.val) * 4096 + k.val) % 4096 = k.val; omega

theorem diff_at (b : Fin 2) (h : Fin 16) (q k : Fin 4096) :
    val_main_v76 x0 x1 x2 x3 x4 x5 (ix4 b h q k) =
      Ideal.div (wt (score x0 x1 b h 0 q) k) (tot (score x0 x1 b h 0 q)) - lam x2 x3 x4 x5 * Ideal.div (wt (score x0 x1 b h 1 q) k) (tot (score x0 x1 b h 1 q)) := by
  have e : val_main_v76 x0 x1 x2 x3 x4 x5 (ix4 b h q k) =
      val_main_v69 x0 x1 (ix5 b h 0 q k) - val_main_v16 x2 x3 x4 x5 ix0 * val_main_v69 x0 x1 (ix5 b h 1 q k) := by
    have e0 : val_main_v71 x0 x1 (ix4 b h q k) = val_main_v69 x0 x1 (ix5 b h 0 q k) := by
      rw [val_main_v71_apply, val_main_v70_apply, first_idx]
    have e1 : val_main_v73 x0 x1 (ix4 b h q k) = val_main_v69 x0 x1 (ix5 b h 1 q k) := by
      rw [val_main_v73_apply, val_main_v72_apply, second_idx]
    have e2 : val_main_v74 x2 x3 x4 x5 (ix4 b h q k) = val_main_v16 x2 x3 x4 x5 ix0 := by
      rw [val_main_v74_apply]
      exact congrArg (val_main_v16 x2 x3 x4 x5) (funext fun a => a.elim0)
    rw [val_main_v76_apply, val_main_v75_apply, e0, e1, e2]
    generalize val_main_v69 x0 x1 (ix5 b h 0 q k) = u
    generalize val_main_v69 x0 x1 (ix5 b h 1 q k) = v
    generalize val_main_v16 x2 x3 x4 x5 ix0 = w
    rfl
  rw [e, soft_at, soft_at, lam_at]

theorem head_at (b : Fin 2) (h : Fin 16) (q : Fin 4096) (d : Fin 128) :
    val_main_v78 x0 x1 x2 x3 x4 x5 (ix4 b q h d) =
      outBefore (score x0 x1 b h 0 q) (score x0 x1 b h 1 q) (lam x2 x3 x4 x5) (val x0 b h d) := by
  have e : val_main_v78 x0 x1 x2 x3 x4 x5 (ix4 b q h d) =
      ∑ k : Fin 4096, val_main_v76 x0 x1 x2 x3 x4 x5 (ix4 b h q k) * val_main_v8 x0 (ix4 b h k d) := by
    pointwise [val_main_v78, val_main_v77]
  rw [e]
  simp only [diff_at, value_at]
  unfold outBefore val
  with_reducible rfl

theorem result_at (b : Fin 2) (h : Fin 16) (q : Fin 4096) (d : Fin 128) :
    val_main_v95 x0 x1 x2 x3 x4 x5 x6 (ix3 b q ⟨h.val * 128 + d.val, by omega⟩) = before x0 x1 x2 x3 x4 x5 x6 b h q d := by
  have e : val_main_v95 x0 x1 x2 x3 x4 x5 x6 (ix3 b q ⟨h.val * 128 + d.val, by omega⟩) = val_main_v93 x0 x1 x2 x3 x4 x5 x6 (ix4 b q h d) := by
    rw [val_main_v95_apply, val_main_v94_apply]
    have hi : idx_main_v94 (ix3 b q ⟨h.val * 128 + d.val, by omega⟩) = ix4 b q h d := by
      funext a
      refine Fin.ext ?_
      match a with
      | ⟨0, _⟩ => show ((b.val * 4096 + q.val) * 2048 + (h.val * 128 + d.val)) / 8388608 = b.val; omega
      | ⟨1, _⟩ => show ((b.val * 4096 + q.val) * 2048 + (h.val * 128 + d.val)) / 2048 % 4096 = q.val; omega
      | ⟨2, _⟩ => show ((b.val * 4096 + q.val) * 2048 + (h.val * 128 + d.val)) / 128 % 16 = h.val; omega
      | ⟨3, _⟩ => show ((b.val * 4096 + q.val) * 2048 + (h.val * 128 + d.val)) % 128 = d.val; omega
    rw [hi]
    generalize val_main_v93 x0 x1 x2 x3 x4 x5 x6 (ix4 b q h d) = y
    rfl
  have e' : val_main_v93 x0 x1 x2 x3 x4 x5 x6 (ix4 b q h d) = Attn.norm (fun d' => val_main_v78 x0 x1 x2 x3 x4 x5 (ix4 b q h d')) (x6 (ix1 d)) d := by
    have hi : idx_main_v81 (idx_main_v87 (ix4 b q h d)) = ix3 b q h := by
      funext a
      match a with
      | ⟨0, _⟩ => rfl
      | ⟨1, _⟩ => rfl
      | ⟨2, _⟩ => rfl
    have hg : idx_main_v89 (idx_main_v90 (ix4 b q h d)) = ix1 d := by
      funext a
      match a with
      | ⟨0, _⟩ => rfl
    have hk : ∀ k : Fin 128, idx_main_v80 (ix3 b q h) k = ix4 b q h k := fun k => by
      funext a
      match a with
      | ⟨0, _⟩ => rfl
      | ⟨1, _⟩ => rfl
      | ⟨2, _⟩ => rfl
      | ⟨3, _⟩ => rfl
    have hs : val_main_v80 x0 x1 x2 x3 x4 x5 (ix3 b q h) = ∑ k : Fin 128, val_main_v78 x0 x1 x2 x3 x4 x5 (ix4 b q h k) * val_main_v78 x0 x1 x2 x3 x4 x5 (ix4 b q h k) := by
      rw [val_main_v80_apply]
      have hc : val_main_cst_16 (F := Ideal) (Shape.Idx.first h_S_) = (0 : EReal) := by
        unfold val_main_cst_16
        show Ideal.ofBits FTy.f32 0#32 = (0 : EReal)
        simp [Ideal.ofBits, Ideal.ieee]
      rw [hc]
      refine (zero_add _).trans (Finset.sum_congr rfl fun k _ => ?_)
      rw [val_main_v79_apply, hk]
      generalize val_main_v78 x0 x1 x2 x3 x4 x5 (ix4 b q h k) = y
      rfl
    rw [val_main_v93_apply, val_main_v92_apply, val_main_v91_apply, val_main_v90_apply, val_main_v89_apply, val_main_v88_apply, val_main_v87_apply, val_main_v86_apply,
      val_main_v85_apply, val_main_v84_apply, val_main_v83_apply, val_main_v82_apply, val_main_v81_apply, hi, hg, hs]
    unfold val_main_cst_17 val_main_cst_18 val_main_cst_19 Attn.norm
    generalize val_main_v78 x0 x1 x2 x3 x4 x5 = y
    rfl
  rw [e, e']
  simp only [head_at]
  unfold before
  with_reducible rfl

end Cert.ReferenceIdeal.Closed

end
-- ==== Proof.Finite.lean ====
/- An entry the precondition's comparison accepts is a real number. -/
module

public import proofs.«01_k».proof.Proof.Spec
public import proofs.«01_k».proof.Defs
public import Idealize.ShloMosaic.Lib.Pointwise

@[expose] public section

noncomputable section

namespace Cert.Finite

open Idealize.ShloMosaic Cert.Attn

/-- The shape relations the precondition states. -/
theorem facts : Cert.Pre_finite.Facts where
  slices_S2x4096x12288_S2x4096x6144_0_0_6144 := by decide
  bcast_S_S2x4096x6144 := by decide
  bcast_S_S32x16 := by decide
  bcast_S_S64 := by decide

/-- A value whose magnitude is below the top is real. -/
theorem isReal_of_olt (x : EReal) (h : FloatOps.cmpf (F := Ideal) (φ := .f32) .olt (FloatOps.absf (F := Ideal) (φ := .f32) x) (Ideal.ofBits .f32 0x7F800000#32) = 1#1) : IsReal x := by
  rw [show Ideal.ofBits FTy.f32 0x7F800000#32 = (⊤ : EReal) from by simp [Ideal.ofBits, Ideal.ieee]] at h
  induction x with
  | bot => exact absurd h (by simp [FloatOps.cmpf, FloatOps.absf, Ideal.cmp])
  | top => exact absurd h (by simp [FloatOps.cmpf, FloatOps.absf, Ideal.cmp])
  | coe r => exact ⟨r, rfl⟩

variable (a0 : FVec Ideal Cert.Pre_finite.S2x4096x12288 .f32) (a1 : FVec Ideal Cert.Pre_finite.S32x16 .f32) (a2 a3 a4 a5 : FVec Ideal Cert.Pre_finite.S64 .f32) (a6 : FVec Ideal Cert.Pre_finite.S128 .f32)

theorem real0 (h : (@Cert.Pre_finite.fn facts Ideal _ a0 a1 a2 a3 a4 a5 a6).1 = fun _ => 1#1) (b : Fin 2) (n : Fin 4096) (j : Fin 6144) :
    IsReal (a0 (ix3 b n ⟨6144 + j.val, by omega⟩)) := by
  refine isReal_of_olt _ ?_
  have e := congrFun h (ix3 b n j)
  refine Eq.trans ?_ e
  unfold Cert.Pre_finite.fn Cert.Pre_finite.fn_part1
  pointwise []

theorem real1 (h : (@Cert.Pre_finite.fn facts Ideal _ a0 a1 a2 a3 a4 a5 a6).2.1 = fun _ => 1#1) (i : Cert.Pre_finite.S32x16.Idx) : IsReal (a1 i) :=
  isReal_of_olt _ (congrFun h i)

theorem real2 (h : (@Cert.Pre_finite.fn facts Ideal _ a0 a1 a2 a3 a4 a5 a6).2.2.1 = fun _ => 1#1) (i : Cert.Pre_finite.S64.Idx) : IsReal (a2 i) :=
  isReal_of_olt _ (congrFun h i)

theorem real3 (h : (@Cert.Pre_finite.fn facts Ideal _ a0 a1 a2 a3 a4 a5 a6).2.2.2.1 = fun _ => 1#1) (i : Cert.Pre_finite.S64.Idx) : IsReal (a3 i) :=
  isReal_of_olt _ (congrFun h i)

theorem real4 (h : (@Cert.Pre_finite.fn facts Ideal _ a0 a1 a2 a3 a4 a5 a6).2.2.2.2.1 = fun _ => 1#1) (i : Cert.Pre_finite.S64.Idx) : IsReal (a4 i) :=
  isReal_of_olt _ (congrFun h i)

theorem real5 (h : (@Cert.Pre_finite.fn facts Ideal _ a0 a1 a2 a3 a4 a5 a6).2.2.2.2.2 = fun _ => 1#1) (i : Cert.Pre_finite.S64.Idx) : IsReal (a5 i) :=
  isReal_of_olt _ (congrFun h i)

end Cert.Finite

end
-- ==== Proof.lean ====
/- The claim: both programs end with their arguments kept and every counter at zero, and in exact arithmetic the kernel's result
  is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.ResNorm
public import proofs.«01_k».proof.Proof.Gen.ResNorm.Frame
public import proofs.«01_k».proof.Proof.Gen.ResNormIdeal
public import proofs.«01_k».proof.Proof.Gen.ResNormIdeal.Frame
public import proofs.«01_k».proof.Proof.Gen.ResNormIdeal.Value
public import proofs.«01_k».proof.Proof.Gen.ResNormRefIdeal
public import proofs.«01_k».proof.Proof.Gen.ResNormRefIdeal.Run
public import proofs.«01_k».proof.Proof.Gen.ResNormRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.UpValue
public import proofs.«01_k».proof.Proof.DownValue
public import proofs.«01_k».proof.Proof.InProjValue
public import proofs.«01_k».proof.Proof.OutProjValue
public import proofs.«01_k».proof.Proof.NormValue
public import proofs.«01_k».proof.Proof.ResNormValue
public import proofs.«01_k».proof.Proof.Final
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference keeps its arguments and ends with every counter at zero. -/
theorem reference_frame : @Cert.quiescent_ReferenceIdeal Cert.ReferenceIdeal.Gen.facts := fun m ρ _ =>
  (θ_run _ _ _).mono (fun r h => ⟨fun c => (h c).2, sem_eq_zero_of_no_sems (by decide) r.2⟩) (Cert.ReferenceIdeal.Value.run (F := Ideal) m ρ)

/-- On real values, table and factors the reference's result is the kernel's. -/
theorem value (a0 : FVec Ideal Cert.Pre_finite.S2x4096x12288 .f32) (a1 : FVec Ideal Cert.Pre_finite.S32x16 .f32)
    (a2 a3 a4 a5 : FVec Ideal Cert.Pre_finite.S64 .f32) (a6 : FVec Ideal Cert.Pre_finite.S128 .f32)
    (hp : (@Cert.Pre_finite.fn Cert.Finite.facts Ideal _ a0 a1 a2 a3 a4 a5 a6).1 = (fun _ => 1#1)
      ∧ (@Cert.Pre_finite.fn Cert.Finite.facts Ideal _ a0 a1 a2 a3 a4 a5 a6).2.1 = (fun _ => 1#1)
      ∧ (@Cert.Pre_finite.fn Cert.Finite.facts Ideal _ a0 a1 a2 a3 a4 a5 a6).2.2.1 = (fun _ => 1#1)
      ∧ (@Cert.Pre_finite.fn Cert.Finite.facts Ideal _ a0 a1 a2 a3 a4 a5 a6).2.2.2.1 = (fun _ => 1#1)
      ∧ (@Cert.Pre_finite.fn Cert.Finite.facts Ideal _ a0 a1 a2 a3 a4 a5 a6).2.2.2.2.1 = (fun _ => 1#1)
      ∧ (@Cert.Pre_finite.fn Cert.Finite.facts Ideal _ a0 a1 a2 a3 a4 a5 a6).2.2.2.2.2 = (fun _ => 1#1)) :
    Cert.ReferenceIdeal.Read.val_main_v95 (F := Ideal) a0 a1 a2 a3 a4 a5 a6 = fun (i : Cert.ReferenceIdeal.S2x4096x2048.Idx) =>
      Cert.Attn.after a0 a1 a2 a3 a4 a5 a6 (i 0) ⟨(i 2).val / 128, by have : (i 2).val < 2048 := (i 2).isLt; omega⟩ (i 1) ⟨(i 2).val % 128, by omega⟩ := by
  obtain ⟨h0, h1, h2, h3, h4, h5⟩ := hp
  refine funext fun (i : Cert.ReferenceIdeal.S2x4096x2048.Idx) => ?_
  obtain ⟨b, q, e, rfl⟩ : ∃ (b : Fin 2) (q : Fin 4096) (e : Fin 2048), i = ix3 b q e := ⟨i 0, i 1, i 2, eq_ix3 i⟩
  obtain ⟨h, d, rfl⟩ : ∃ (h : Fin 16) (d : Fin 128), e = ⟨h.val * 128 + d.val, by omega⟩ :=
    ⟨⟨e.val / 128, by omega⟩, ⟨e.val % 128, by omega⟩, Fin.ext (by show e.val = e.val / 128 * 128 + e.val % 128; omega)⟩
  refine (Cert.ReferenceIdeal.Closed.result_at a0 a1 a2 a3 a4 a5 a6 b h q d).trans ?_
  refine (Cert.Attn.after_eq_before a0 a1 a2 a3 a4 a5 a6 (Cert.Finite.real0 _ _ _ _ _ _ _ h0) (Cert.Finite.real1 _ _ _ _ _ _ _ h1) (Cert.Finite.real2 _ _ _ _ _ _ _ h2)
    (Cert.Finite.real3 _ _ _ _ _ _ _ h3) (Cert.Finite.real4 _ _ _ _ _ _ _ h4) (Cert.Finite.real5 _ _ _ _ _ _ _ h5) b h q d).symm.trans ?_
  have e1 : h = ⟨(h.val * 128 + d.val) / 128, by omega⟩ := Fin.ext (by show h.val = (h.val * 128 + d.val) / 128; omega)
  have e2 : d = ⟨(h.val * 128 + d.val) % 128, by omega⟩ := Fin.ext (by show d.val = (h.val * 128 + d.val) % 128; omega)
  exact congr (congrFun (congrArg (Cert.Attn.after a0 a1 a2 a3 a4 a5 a6 b) e1) q) e2

theorem algebraic : @Cert.algebraic_KernelIdeal_ReferenceIdeal_pre_finite Cert.KernelIdeal.Gen.facts Cert.ReferenceIdeal.Gen.facts Cert.Finite.facts :=
  fun m ρ m' ρ' hp hag => ⟨fun c => Cert.KernelIdeal.Array.result m c,
    (θ_run _ _ _).mono (fun r h c => by
      obtain ⟨h0, hk⟩ := h c
      exact ⟨h0.trans (Cert.KernelIdeal.Array.final_eq m c), hk⟩) (Cert.KernelIdeal.Value.run_blocks m ρ),
    (θ_run _ _ _).mono (fun r h c => by
      obtain ⟨h0, hk⟩ := h c
      refine ⟨h0.trans ((Cert.ReferenceIdeal.Read.val_main_v95_eq (StableHlo.launchContents m' c)).trans ?_), hk⟩
      obtain ⟨e0, e1, e2, e3, e4, e5, e6⟩ := hag c
      have f0 : StableHlo.launchContents m' c (Proc.tc.devRef Cert.ReferenceIdeal.main_arg0) = m ((c.tc : Thread Cert.KernelIdeal.nD Cert.KernelIdeal.τ).loc Cert.KernelIdeal.main_arg0) := (StableHlo.launchContents_devRef m' c Cert.ReferenceIdeal.main_arg0).trans e0
      have f1 : StableHlo.launchContents m' c (Proc.tc.devRef Cert.ReferenceIdeal.main_arg1) = m ((c.tc : Thread Cert.KernelIdeal.nD Cert.KernelIdeal.τ).loc Cert.KernelIdeal.main_arg1) := (StableHlo.launchContents_devRef m' c Cert.ReferenceIdeal.main_arg1).trans e1
      have f2 : StableHlo.launchContents m' c (Proc.tc.devRef Cert.ReferenceIdeal.main_arg2) = m ((c.tc : Thread Cert.KernelIdeal.nD Cert.KernelIdeal.τ).loc Cert.KernelIdeal.main_arg2) := (StableHlo.launchContents_devRef m' c Cert.ReferenceIdeal.main_arg2).trans e2
      have f3 : StableHlo.launchContents m' c (Proc.tc.devRef Cert.ReferenceIdeal.main_arg3) = m ((c.tc : Thread Cert.KernelIdeal.nD Cert.KernelIdeal.τ).loc Cert.KernelIdeal.main_arg3) := (StableHlo.launchContents_devRef m' c Cert.ReferenceIdeal.main_arg3).trans e3
      have f4 : StableHlo.launchContents m' c (Proc.tc.devRef Cert.ReferenceIdeal.main_arg4) = m ((c.tc : Thread Cert.KernelIdeal.nD Cert.KernelIdeal.τ).loc Cert.KernelIdeal.main_arg4) := (StableHlo.launchContents_devRef m' c Cert.ReferenceIdeal.main_arg4).trans e4
      have f5 : StableHlo.launchContents m' c (Proc.tc.devRef Cert.ReferenceIdeal.main_arg5) = m ((c.tc : Thread Cert.KernelIdeal.nD Cert.KernelIdeal.τ).loc Cert.KernelIdeal.main_arg5) := (StableHlo.launchContents_devRef m' c Cert.ReferenceIdeal.main_arg5).trans e5
      have f6 : StableHlo.launchContents m' c (Proc.tc.devRef Cert.ReferenceIdeal.main_arg6) = m ((c.tc : Thread Cert.KernelIdeal.nD Cert.KernelIdeal.τ).loc Cert.KernelIdeal.main_arg6) := (StableHlo.launchContents_devRef m' c Cert.ReferenceIdeal.main_arg6).trans e6
      rw [f0, f1, f2, f3, f4, f5, f6]
      exact value _ _ _ _ _ _ _ (hp c)) (Cert.ReferenceIdeal.Value.run m' ρ')⟩

theorem up_frame : @Cert.quiescent_UpRefIdeal Cert.UpRefIdeal.Gen.facts := fun m ρ _ =>
  (θ_run _ _ _).mono (fun r h => ⟨fun c => (h c).2, sem_eq_zero_of_no_sems (by decide) r.2⟩) (Cert.UpRefIdeal.Value.run (F := Ideal) m ρ)

/-- In exact arithmetic the first product of the feed-forward part is the reference's. -/
theorem up_algebraic : @Cert.algebraic_UpIdeal_UpRefIdeal Cert.UpIdeal.Gen.facts Cert.UpRefIdeal.Gen.facts :=
  fun m ρ m' ρ' _ hag => ⟨fun c => Cert.UpIdeal.Array.result m c,
    (θ_run _ _ _).mono (fun r h c => by
      obtain ⟨h0, hk⟩ := h c
      exact ⟨h0.trans (Cert.UpIdeal.Array.final_eq m c), hk⟩) (Cert.UpIdeal.Value.run_blocks m ρ),
    (θ_run _ _ _).mono (fun r h c => by
      obtain ⟨h0, hk⟩ := h c
      refine ⟨h0.trans ((Cert.UpRefIdeal.Read.val_main_v4_eq _ _).trans ?_), hk⟩
      obtain ⟨e0, e1⟩ := hag c
      rw [e0, e1]
      exact Cert.UpIdeal.Array.value _ _) (Cert.UpRefIdeal.Value.run m' ρ')⟩

theorem down_frame : @Cert.quiescent_DownRefIdeal Cert.DownRefIdeal.Gen.facts := fun m ρ _ =>
  (θ_run _ _ _).mono (fun r h => ⟨fun c => (h c).2, sem_eq_zero_of_no_sems (by decide) r.2⟩) (Cert.DownRefIdeal.Value.run (F := Ideal) m ρ)

/-- In exact arithmetic the second product of the feed-forward part is the reference's. -/
theorem down_algebraic : @Cert.algebraic_DownIdeal_DownRefIdeal Cert.DownIdeal.Gen.facts Cert.DownRefIdeal.Gen.facts :=
  fun m ρ m' ρ' _ hag => ⟨fun c => Cert.DownIdeal.Array.result m c,
    (θ_run _ _ _).mono (fun r h c => by
      obtain ⟨h0, hk⟩ := h c
      exact ⟨h0.trans (Cert.DownIdeal.Array.final_eq m c), hk⟩) (Cert.DownIdeal.Value.run_blocks m ρ),
    (θ_run _ _ _).mono (fun r h c => by
      obtain ⟨h0, hk⟩ := h c
      refine ⟨h0.trans ((Cert.DownRefIdeal.Read.val_main_v1_eq _ _).trans ?_), hk⟩
      obtain ⟨e0, e1⟩ := hag c
      rw [e0, e1]
      exact Cert.DownIdeal.Array.value _ _) (Cert.DownRefIdeal.Value.run m' ρ')⟩

theorem inProj_frame : @Cert.quiescent_InProjRefIdeal Cert.InProjRefIdeal.Gen.facts := fun m ρ _ =>
  (θ_run _ _ _).mono (fun r h => ⟨fun c => (h c).2, sem_eq_zero_of_no_sems (by decide) r.2⟩) (Cert.InProjRefIdeal.Value.run (F := Ideal) m ρ)

/-- In exact arithmetic the combined projection is the reference's. -/
theorem inProj_algebraic : @Cert.algebraic_InProjIdeal_InProjRefIdeal Cert.InProjIdeal.Gen.facts Cert.InProjRefIdeal.Gen.facts :=
  fun m ρ m' ρ' _ hag => ⟨fun c => Cert.InProjIdeal.Array.result m c,
    (θ_run _ _ _).mono (fun r h c => by
      obtain ⟨h0, hk⟩ := h c
      exact ⟨h0.trans (Cert.InProjIdeal.Array.final_eq m c), hk⟩) (Cert.InProjIdeal.Value.run_blocks m ρ),
    (θ_run _ _ _).mono (fun r h c => by
      obtain ⟨h0, hk⟩ := h c
      refine ⟨h0.trans ((Cert.InProjRefIdeal.Read.val_main_v12_eq _ _).trans ?_), hk⟩
      obtain ⟨e0, e1⟩ := hag c
      rw [e0, e1]
      exact Cert.InProjIdeal.Array.value _ _) (Cert.InProjRefIdeal.Value.run m' ρ')⟩

theorem outProj_frame : @Cert.quiescent_OutProjRefIdeal Cert.OutProjRefIdeal.Gen.facts := fun m ρ _ =>
  (θ_run _ _ _).mono (fun r h => ⟨fun c => (h c).2, sem_eq_zero_of_no_sems (by decide) r.2⟩) (Cert.OutProjRefIdeal.Value.run (F := Ideal) m ρ)

/-- In exact arithmetic the output projection is the reference's. -/
theorem outProj_algebraic : @Cert.algebraic_OutProjIdeal_OutProjRefIdeal Cert.OutProjIdeal.Gen.facts Cert.OutProjRefIdeal.Gen.facts :=
  fun m ρ m' ρ' _ hag => ⟨fun c => Cert.OutProjIdeal.Array.result m c,
    (θ_run _ _ _).mono (fun r h c => by
      obtain ⟨h0, hk⟩ := h c
      exact ⟨h0.trans (Cert.OutProjIdeal.Array.final_eq m c), hk⟩) (Cert.OutProjIdeal.Value.run_blocks m ρ),
    (θ_run _ _ _).mono (fun r h c => by
      obtain ⟨h0, hk⟩ := h c
      refine ⟨h0.trans ((Cert.OutProjRefIdeal.Read.val_main_v1_eq _ _).trans ?_), hk⟩
      obtain ⟨e0, e1⟩ := hag c
      rw [e0, e1]
      exact Cert.OutProjIdeal.Array.value _ _) (Cert.OutProjRefIdeal.Value.run m' ρ')⟩

theorem norm_frame : @Cert.quiescent_NormRefIdeal Cert.NormRefIdeal.Gen.facts := fun m ρ _ =>
  (θ_run _ _ _).mono (fun r h => ⟨fun c => (h c).2, sem_eq_zero_of_no_sems (by decide) r.2⟩) (Cert.NormRefIdeal.Value.run (F := Ideal) m ρ)

/-- In exact arithmetic the first norm is the reference's. -/
theorem norm_algebraic : @Cert.algebraic_NormIdeal_NormRefIdeal Cert.NormIdeal.Gen.facts Cert.NormRefIdeal.Gen.facts :=
  fun m ρ m' ρ' _ hag => ⟨fun c => Cert.NormIdeal.Array.result m c,
    (θ_run _ _ _).mono (fun r h c => by
      obtain ⟨h0, hk⟩ := h c
      exact ⟨h0.trans (Cert.NormIdeal.Array.final_eq m c), hk⟩) (Cert.NormIdeal.Value.run_blocks m ρ),
    (θ_run _ _ _).mono (fun r h c => by
      obtain ⟨h0, hk⟩ := h c
      refine ⟨h0.trans ((Cert.NormRefIdeal.Read.val_main_v13_eq _ _).trans ?_), hk⟩
      obtain ⟨e0, e1⟩ := hag c
      rw [e0, e1]
      exact Cert.NormIdeal.Array.value _ _) (Cert.NormRefIdeal.Value.run m' ρ')⟩

theorem resNorm_frame : @Cert.quiescent_ResNormRefIdeal Cert.ResNormRefIdeal.Gen.facts := fun m ρ _ =>
  (θ_run _ _ _).mono (fun r h => ⟨fun c => (h c).2.2, sem_eq_zero_of_no_sems (by decide) r.2⟩) (Cert.ResNormRefIdeal.Value.run (F := Ideal) m ρ)

/-- In exact arithmetic the residual sum and the next norm are the reference's. -/
theorem resNorm_algebraic : @Cert.algebraic_ResNormIdeal_ResNormRefIdeal Cert.ResNormIdeal.Gen.facts Cert.ResNormRefIdeal.Gen.facts :=
  fun m ρ m' ρ' _ hag => ⟨fun c => Cert.ResNormIdeal.Array.sums m c, fun c => Cert.ResNormIdeal.Array.nexts m c,
    (θ_run _ _ _).mono (fun r h c => by
      obtain ⟨h0, h1, hk⟩ := h c
      exact ⟨h0.trans (Cert.ResNormIdeal.Array.final_sum m c), h1.trans (Cert.ResNormIdeal.Array.final_next m c), hk⟩)
      (Cert.ResNormIdeal.Value.run_blocks m ρ),
    (θ_run _ _ _).mono (fun r h c => by
      obtain ⟨h0, h1, hk⟩ := h c
      refine ⟨h0.trans ((Cert.ResNormRefIdeal.Read.val_main_v13_eq _ _ _).trans ?_),
        h1.trans ((Cert.ResNormRefIdeal.Read.val_main_v27_eq _ _ _ _).trans ?_), hk⟩
      all_goals
        obtain ⟨e0, e1, e2, e3⟩ := hag c
        rw [e0, e1, e2]
      · exact Cert.ResNormIdeal.Array.value_sum _ _ _
      · rw [e3]
        exact Cert.ResNormIdeal.Array.value_next _ _ _ _) (Cert.ResNormRefIdeal.Value.run m' ρ')⟩

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.Norm.Gen.facts, Cert.NormIdeal.Gen.facts, Cert.NormRefIdeal.Gen.facts,
  Cert.ResNorm.Gen.facts, Cert.ResNormIdeal.Gen.facts, Cert.ResNormRefIdeal.Gen.facts,
  Cert.Finite.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Up.Gen.frame m ρ, fun m ρ _ => Cert.UpIdeal.Gen.frame m ρ, up_frame,
  fun m ρ _ => Cert.Down.Gen.frame m ρ, fun m ρ _ => Cert.DownIdeal.Gen.frame m ρ, down_frame,
  fun m ρ _ => Cert.InProj.Gen.frame m ρ, fun m ρ _ => Cert.InProjIdeal.Gen.frame m ρ, inProj_frame,
  fun m ρ _ => Cert.OutProj.Gen.frame m ρ, fun m ρ _ => Cert.OutProjIdeal.Gen.frame m ρ, outProj_frame,
  fun m ρ _ => Cert.Norm.Gen.frame m ρ, fun m ρ _ => Cert.NormIdeal.Gen.frame m ρ, norm_frame,
  fun m ρ _ => Cert.ResNorm.Gen.frame m ρ, fun m ρ _ => Cert.ResNormIdeal.Gen.frame m ρ, resNorm_frame,
  trivial, algebraic, trivial, up_algebraic, trivial, down_algebraic, trivial, inProj_algebraic, trivial, outProj_algebraic,
  trivial, norm_algebraic, trivial, resNorm_algebraic⟩

end Cert.Proof

end
